-- ==== Defs.lean ====
def Pre_Kernel (m : (ℓ : Loc Cert.Kernel.nD Cert.Kernel.τ Cert.Kernel.sig) → Buf (Elt Bits) ℓ) : Prop :=
  True

def Pre_Kernel_separated [hPre_separated : Cert.Pre_separated.Facts] (m : (ℓ : Loc Cert.Kernel.nD Cert.Kernel.τ Cert.Kernel.sig) → Buf (Elt Bits) ℓ) : Prop :=
  ∀ c : Dev Cert.Kernel.nD,
    (Cert.Pre_separated.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_separated [hKernel : Cert.Kernel.Facts] [hPre_separated : Cert.Pre_separated.Facts] : Prop :=
  ∀ (m : (ℓ : Loc Cert.Kernel.nD Cert.Kernel.τ Cert.Kernel.sig) → Buf (Elt Bits) ℓ) (g : Dev Cert.Kernel.nD → PrngReg), Pre_Kernel_separated m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_Kernel_pre_separated (hKernel := hKernel) (hPre_separated := hPre_separated)
    ∧ quiescent_KernelIdeal (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal (hKernelIdeal := hKernelIdeal) (hReferenceIdeal := hReferenceIdeal) (hPre_separated := hPre_separated)
-- ==== Pre_separated.lean ====
abbrev S32x64x32x32 : Shape := ⟨4, ![32, 64, 32, 32]⟩
abbrev S1024x64 : Shape := ⟨2, ![1024, 64]⟩
abbrev S32x32x32x64 : Shape := ⟨4, ![32, 32, 32, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S64x1024 : Shape := ⟨2, ![64, 1024]⟩
abbrev S32768x1024 : Shape := ⟨2, ![32768, 1024]⟩
abbrev S1024 : Shape := ⟨1, ![1024]⟩
abbrev S1x1024 : Shape := ⟨2, ![1, 1024]⟩

class Facts : Prop where
  transposes_S32x64x32x32_S32x32x32x64_0_2_3_1 : S32x64x32x32.Transposes [0, 2, 3, 1] S32x32x32x64
  shapeCasts_S32x32x32x64_S32768x64 : S32x32x32x64.ShapeCasts S32768x64
  reducesTo_S32768x64_S32768_d1 : S32768x64.ReducesTo [1] S32768
  h_S_ : 0 < S_.numel
  bcast_S32768_S32768x1_0 : S32768.BroadcastsInDim S32768x1 (![0] : Fin 1 → Fin S32768x1.rank)
  bcast_S_S32768x64 : S_.BroadcastsInDim S32768x64 (![] : Fin 0 → Fin S32768x64.rank)
  transposes_S1024x64_S64x1024_1_0 : S1024x64.Transposes [1, 0] S64x1024
  bcast_S32768x1_S32768x1024_0_1 : S32768x1.BroadcastsInDim S32768x1024 (![0, 1] : Fin 2 → Fin S32768x1024.rank)
  reducesTo_S1024x64_S1024_d1 : S1024x64.ReducesTo [1] S1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  reducesTo_S32768x1024_S32768_d1 : S32768x1024.ReducesTo [1] S32768
  natLt_1_32 : 1 < 32
  bcast_S_S32768 : S_.BroadcastsInDim S32768 (![] : Fin 0 → Fin S32768.rank)
  reducesTo_S32768_S_d0 : S32768.ReducesTo [0] S_
  bcast_S_S32x64x32x32 : S_.BroadcastsInDim S32x64x32x32 (![] : Fin 0 → Fin S32x64x32x32.rank)
  reducesTo_S32x64x32x32_S_d0_1_2_3 : S32x64x32x32.ReducesTo [0, 1, 2, 3] S_
  bcast_S_S1024x64 : S_.BroadcastsInDim S1024x64 (![] : Fin 0 → Fin S1024x64.rank)
  reducesTo_S1024x64_S_d0_1 : S1024x64.ReducesTo [0, 1] S_
  dot_S32768x64_S64x1024_S32768x1024_1_0_0_1_n_n_wf : DotDims.WF S32768x64 S64x1024 S32768x1024 [1] [0] [0] [1] [] []

variable [Facts]

def dot_S32768x64_S64x1024_S32768x1024_1_0_0_1_n_n : DotDims S32768x64 S64x1024 S32768x1024 where
  lhsContracting := [1]
  rhsContracting := [0]
  lhsNonContracting := [0]
  rhsNonContracting := [1]
  lhsBatch := []
  rhsBatch := []
  wf := dot_S32768x64_S64x1024_S32768x1024_1_0_0_1_n_n_wf
def fn_part2 {F : FTy → Type} [FloatOps F] (main_v27 : IVec S_ 1) (main_v31 : IVec S_ 1) (main_v35 : IVec S_ 1) : IVec S_ 1 :=
  let main_v36 : IVec S_ 1 := andi main_v31 main_v35
  let main_v37 : IVec S_ 1 := andi main_v27 main_v36
  main_v37

def fn_part1 {F : FTy → Type} [FloatOps F] (main_arg0 : FVec F S32x64x32x32 .f32) (main_arg1 : FVec F S1024x64 .f32) (main_v18 : FVec F S32768x1024 .f32) (main_cst_3 : FVec F S_ .f32) : IVec S_ 1 :=
  let main_v19 : FVec F S32768 .f32 := (fun x v => Host.reduce FloatOps.minimumf x v reducesTo_S32768x1024_S32768_d1 h_S_) main_v18 main_cst_3
  let main_v20 : FVec F S32768x1 .f32 := broadcastInDim S32768x1 ![0] bcast_S32768_S32768x1_0 main_v19
  let main_v21 : FVec F S32768x1024 .f32 := broadcastInDim S32768x1024 ![0, 1] bcast_S32768x1_S32768x1024_0_1 main_v20
  let main_v22 : IVec S32768x1024 1 := cmpf .oeq main_v18 main_v21
  let main_v23 : IVec S32768x1024 32 := (extui 32 · natLt_1_32) main_v22
  let main_c : IVec S_ 32 := constantI S_ 32 0#32
  let main_v24 : IVec S32768 32 := (fun x v => Host.reduce IntOp.addi x v reducesTo_S32768x1024_S32768_d1 h_S_) main_v23 main_c
  let main_c_4 : IVec S_ 32 := constantI S_ 32 1#32
  let main_v25 : IVec S32768 32 := broadcastInDim S32768 ![] bcast_S_S32768 main_c_4
  let main_v26 : IVec S32768 1 := cmpi .eq main_v24 main_v25
  let main_c_5 : IVec S_ 1 := constantI S_ 1 1#1
  let main_v27 : IVec S_ 1 := (fun x v => Host.reduce IntOp.andi x v reducesTo_S32768_S_d0 h_S_) main_v26 main_c_5
  let main_v28 : FVec F S32x64x32x32 .f32 := Host.absf main_arg0
  let main_cst_6 : FVec F S_ .f32 := constant S_ .f32 0x7F800000#32
  let main_v29 : FVec F S32x64x32x32 .f32 := broadcastInDim S32x64x32x32 ![] bcast_S_S32x64x32x32 main_cst_6
  let main_v30 : IVec S32x64x32x32 1 := cmpf .olt main_v28 main_v29
  let main_c_7 : IVec S_ 1 := constantI S_ 1 1#1
  let main_v31 : IVec S_ 1 := (fun x v => Host.reduce IntOp.andi x v reducesTo_S32x64x32x32_S_d0_1_2_3 h_S_) main_v30 main_c_7
  let main_v32 : FVec F S1024x64 .f32 := Host.absf main_arg1
  let main_cst_8 : FVec F S_ .f32 := constant S_ .f32 0x7F800000#32
  let main_v33 : FVec F S1024x64 .f32 := broadcastInDim S1024x64 ![] bcast_S_S1024x64 main_cst_8
  let main_v34 : IVec S1024x64 1 := cmpf .olt main_v32 main_v33
  let main_c_9 : IVec S_ 1 := constantI S_ 1 1#1
  let main_v35 : IVec S_ 1 := (fun x v => Host.reduce IntOp.andi x v reducesTo_S1024x64_S_d0_1 h_S_) main_v34 main_c_9
  fn_part2 (F := F) main_v27 main_v31 main_v35

def fn {F : FTy → Type} [FloatOps F] (main_arg0 : FVec F S32x64x32x32 .f32) (main_arg1 : FVec F S1024x64 .f32) : IVec S_ 1 :=
  let main_v0 : FVec F S32x32x32x64 .f32 := (transpose S32x32x32x64 [0, 2, 3, 1] · transposes_S32x64x32x32_S32x32x32x64_0_2_3_1) main_arg0
  let main_v1 : FVec F S32768x64 .f32 := shapeCast S32768x64 main_v0 shapeCasts_S32x32x32x64_S32768x64
  let main_v2 : FVec F S32768x64 .f32 := mulf main_v1 main_v1
  let main_cst : FVec F S_ .f32 := constant S_ .f32 0x00000000#32
  let main_v3 : FVec F S32768 .f32 := (fun x v => Host.reduceAdd x v reducesTo_S32768x64_S32768_d1 h_S_) main_v2 main_cst
  let main_v4 : FVec F S32768x1 .f32 := broadcastInDim S32768x1 ![0] bcast_S32768_S32768x1_0 main_v3
  let main_cst_0 : FVec F S_ .f32 := constant S_ .f32 0x40000000#32
  let main_v5 : FVec F S32768x64 .f32 := broadcastInDim S32768x64 ![] bcast_S_S32768x64 main_cst_0
  let main_v6 : FVec F S32768x64 .f32 := mulf main_v5 main_v1
  let main_v7 : FVec F S64x1024 .f32 := (transpose S64x1024 [1, 0] · transposes_S1024x64_S64x1024_1_0) main_arg1
  let main_v8 : FVec F S32768x1024 .f32 := (fun l r => Host.dotGeneral dot_S32768x64_S64x1024_S32768x1024_1_0_0_1_n_n none l r) main_v6 main_v7
  let main_v9 : FVec F S32768x1024 .f32 := broadcastInDim S32768x1024 ![0, 1] bcast_S32768x1_S32768x1024_0_1 main_v4
  let main_v10 : FVec F S32768x1024 .f32 := subf main_v9 main_v8
  let main_v11 : FVec F S1024x64 .f32 := mulf main_arg1 main_arg1
  let main_cst_1 : FVec F S_ .f32 := constant S_ .f32 0x00000000#32
  let main_v12 : FVec F S1024 .f32 := (fun x v => Host.reduceAdd x v reducesTo_S1024x64_S1024_d1 h_S_) main_v11 main_cst_1
  let main_v13 : FVec F S1x1024 .f32 := broadcastInDim S1x1024 ![1] bcast_S1024_S1x1024_1 main_v12
  let main_v14 : FVec F S32768x1024 .f32 := broadcastInDim S32768x1024 ![0, 1] bcast_S1x1024_S32768x1024_0_1 main_v13
  let main_v15 : FVec F S32768x1024 .f32 := addf main_v10 main_v14
  let main_cst_2 : FVec F S_ .f32 := constant S_ .f32 0x00000000#32
  let main_v16 : FVec F S32768x1024 .f32 := broadcastInDim S32768x1024 ![] bcast_S_S32768x1024 main_cst_2
  let main_v17 : FVec F S32768x1024 .f32 := maximumf main_v15 main_v16
  let main_v18 : FVec F S32768x1024 .f32 := Host.sqrt main_v17
  let main_cst_3 : FVec F S_ .f32 := constant S_ .f32 0x7F800000#32
  fn_part1 (F := F) main_arg0 main_arg1 main_v18 main_cst_3
-- ==== Kernel.lean ====
abbrev S32x64x32x32 : Shape := ⟨4, ![32, 64, 32, 32]⟩
abbrev S1024x64 : Shape := ⟨2, ![1024, 64]⟩
abbrev S64x1024 : Shape := ⟨2, ![64, 1024]⟩
abbrev S_ : Shape := ⟨0, ![]⟩
abbrev S32x1x1024 : Shape := ⟨3, ![32, 1, 1024]⟩
abbrev S1x64x32x32 : Shape := ⟨4, ![1, 64, 32, 32]⟩
abbrev S1x1x1024 : Shape := ⟨3, ![1, 1, 1024]⟩
abbrev S64x32x32 : Shape := ⟨3, ![64, 32, 32]⟩
abbrev S8x8x1024 : Shape := ⟨3, ![8, 8, 1024]⟩
abbrev S8x1x1024 : Shape := ⟨3, ![8, 1, 1024]⟩
abbrev S8x1024 : Shape := ⟨2, ![8, 1024]⟩
abbrev S1x1024 : Shape := ⟨2, ![1, 1024]⟩
abbrev S1024 : Shape := ⟨1, ![1024]⟩
abbrev S1024x1 : Shape := ⟨2, ![1024, 1]⟩
abbrev S1024x1024 : Shape := ⟨2, ![1024, 1024]⟩
abbrev S1x64x1024 : Shape := ⟨3, ![1, 64, 1024]⟩
abbrev S1 : Shape := ⟨1, ![1]⟩
abbrev S1x1x1 : Shape := ⟨3, ![1, 1, 1]⟩
abbrev S32x1x1 : Shape := ⟨3, ![32, 1, 1]⟩
abbrev S32 : Shape := ⟨1, ![32]⟩
abbrev S32768 : Shape := ⟨1, ![32768]⟩

abbrev nBuf : Space → Nat
  | .hbm => 16
  | .vmem => 10
  | .smem => 0
  | _ => 0

abbrev bufTy : (tb : Table) → Fin (tcTables nBuf tb) → BufTy
  | .hbm, ⟨0, _⟩ => ⟨S32x64x32x32, .f32⟩
  | .hbm, ⟨1, _⟩ => ⟨S1024x64, .f32⟩
  | .hbm, ⟨2, _⟩ => ⟨S64x1024, .f32⟩
  | .hbm, ⟨3, _⟩ => ⟨S_, .f32⟩
  | .hbm, ⟨4, _⟩ => ⟨S64x1024, .f32⟩
  | .hbm, ⟨5, _⟩ => ⟨S64x1024, .f32⟩
  | .hbm, ⟨6, _⟩ => ⟨S32x64x32x32, .f32⟩
  | .hbm, ⟨7, _⟩ => ⟨S32x1x1024, .i32⟩
  | .hbm, ⟨8, _⟩ => ⟨S32x1x1024, .f32⟩
  | .hbm, ⟨9, _⟩ => ⟨S32x1x1, .f32⟩
  | .hbm, ⟨10, _⟩ => ⟨S32, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S32768, .i32⟩
  | .local _ .vmem, ⟨0, _⟩ => ⟨S1x64x32x32, .f32⟩
  | .local _ .vmem, ⟨1, _⟩ => ⟨S1x64x32x32, .f32⟩
  | .local _ .vmem, ⟨2, _⟩ => ⟨S64x1024, .f32⟩
  | .local _ .vmem, ⟨3, _⟩ => ⟨S64x1024, .f32⟩
  | .local _ .vmem, ⟨4, _⟩ => ⟨S1x64x32x32, .f32⟩
  | .local _ .vmem, ⟨5, _⟩ => ⟨S1x64x32x32, .f32⟩
  | .local _ .vmem, ⟨6, _⟩ => ⟨S1x1x1024, .i32⟩
  | .local _ .vmem, ⟨7, _⟩ => ⟨S1x1x1024, .i32⟩
  | .local _ .vmem, ⟨8, _⟩ => ⟨S1x1x1024, .f32⟩
  | .local _ .vmem, ⟨9, _⟩ => ⟨S1x1x1024, .f32⟩
  | _, _ => ⟨S32x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x64x32x32 : Shape := ⟨4, ![32, 64, 32, 32]⟩
abbrev S1024x64 : Shape := ⟨2, ![1024, 64]⟩
abbrev S32x32x32x64 : Shape := ⟨4, ![32, 32, 32, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S64x1024 : Shape := ⟨2, ![64, 1024]⟩
abbrev S32768x1024 : Shape := ⟨2, ![32768, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S32x64x32x32, .f32⟩
  | .hbm, ⟨1, _⟩ => ⟨S1024x64, .f32⟩
  | .hbm, ⟨2, _⟩ => ⟨S32x32x32x64, .f32⟩
  | .hbm, ⟨3, _⟩ => ⟨S32768x64, .f32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x64, .f32⟩
  | .hbm, ⟨10, _⟩ => ⟨S32768x64, .f32⟩
  | .hbm, ⟨11, _⟩ => ⟨S64x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S1024x64, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .i32⟩
  | .hbm, ⟨26, _⟩ => ⟨S_, .f32⟩
  | .hbm, ⟨27, _⟩ => ⟨S_, .i32⟩
  | .hbm, ⟨28, _⟩ => ⟨S32768, .f32⟩
  | .hbm, ⟨29, _⟩ => ⟨S32768, .i32⟩
  | .hbm, ⟨30, _⟩ => ⟨S_, .i32⟩
  | .hbm, ⟨31, _⟩ => ⟨S32768, .i32⟩
  | .hbm, ⟨32, _⟩ => ⟨S32768, .i1⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S32768, .i32⟩
  | .hbm, ⟨37, _⟩ => ⟨S32768x1, .i32⟩
  | .hbm, ⟨38, _⟩ => ⟨S1, .i32⟩
  | .hbm, ⟨39, _⟩ => ⟨S_, .i32⟩
  | .hbm, ⟨40, _⟩ => ⟨S32768x1, .i32⟩
  | .hbm, ⟨41, _⟩ => ⟨S32768x1, .i1⟩
  | .hbm, ⟨42, _⟩ => ⟨S1x1, .i32⟩
  | .hbm, ⟨43, _⟩ => ⟨S32768x1, .i32⟩
  | .hbm, ⟨44, _⟩ => ⟨S32768x1, .i1⟩
  | .hbm, ⟨45, _⟩ => ⟨S32768x1, .i1⟩
  | .hbm, ⟨46, _⟩ => ⟨S_, .i1⟩
  | .hbm, ⟨47, _⟩ => ⟨S32768, .i1⟩
  | .hbm, ⟨48, _⟩ => ⟨S32768x64, .f32⟩
  | .hbm, ⟨49, _⟩ => ⟨S32768x64, .i1⟩
  | .hbm, ⟨50, _⟩ => ⟨S_, .f32⟩
  | .hbm, ⟨51, _⟩ => ⟨S32768x64, .f32⟩
  | .hbm, ⟨52, _⟩ => ⟨S32768x64, .f32⟩
  | .hbm, ⟨53, _⟩ => ⟨S32768x64, .f32⟩
  | .hbm, ⟨54, _⟩ => ⟨S32768x64, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S32768x64, .f32⟩
  | .hbm, ⟨60, _⟩ => ⟨S32768x64, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S32768x64, .f32⟩
  | .hbm, ⟨69, _⟩ => ⟨S32768x64, .f32⟩
  | .hbm, ⟨70, _⟩ => ⟨S32x32x32x64, .f32⟩
  | .hbm, ⟨71, _⟩ => ⟨S32x64x32x32, .f32⟩
  | _, _ => ⟨S32x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v19 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_cst_7 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩

abbrev nD : Nat := 1
abbrev τ : Topo := Topo.v7x

variable {F : FTy → Type} [FloatOps F]
-- ==== Proof.Ker.lean ====
/-
  What the kernel computes, as plain functions of its arguments: first of ONE block (one image of the batch and the two
  forms of the codebook it is handed), then of the whole arrays, which are those blocks side by side, and of the host
  operations around the launch.  Nothing is run here: Proof/KerRun.lean shows that the run ends with these values.
-/
module

public import proofs.«01_k».proof.Proof.Gen.KernelIdeal.Skeleton
public import Idealize.ShloMosaic.Lib.Pointwise

@[expose] public section

set_option maxRecDepth 16384

noncomputable section

namespace Cert.VQ.Ker

open Cert.KernelIdeal Cert.KernelIdeal.Gen Idealize.ShloMosaic

variable {F : FTy → Type} [FloatOps F]

/-- Image `t` of the batch. -/
def image (a : FVec F S32x64x32x32 .f32) (t : Fin 32) : Vec F S1x64x32x32 .f32 := fun j =>
  a (ix4 t (j 1 : Fin 64) (j 2 : Fin 32) (j 3 : Fin 32))

/-- The codebook with one code per column. -/
def columns (b : FVec F S1024x64 .f32) : FVec F S64x1024 .f32 := transpose S64x1024 [1, 0] b transposes_S1024x64_S64x1024_1_0

/-- That codebook times `-2`. -/
def scaled (b : FVec F S1024x64 .f32) : FVec F S64x1024 .f32 :=
  mulf (broadcastInDim S64x1024 ![] bcast_S_S64x1024 (constant S_ .f32 0xC0000000#32)) (columns b)

/-- One block's quantized image, from the image `x`, the scaled codebook `s` and the codebook `k`. -/
def quantB (x : Vec F S1x64x32x32 .f32) (s k : FVec F S64x1024 .f32) : FVec F S1x64x32x32 .f32 :=
  k0_pay9 (k0_pay1 x) (k0_pay2 s) (k0_pay3 k) (k0_pay4 x) (k0_pay5 x) (k0_pay6 x)

/-- One block's indices. -/
def indexB (x : Vec F S1x64x32x32 .f32) (s k : FVec F S64x1024 .f32) : IVec S1x1x1024 32 :=
  k0_pay10 (k0_pay1 x) (k0_pay2 s) (k0_pay3 k) (k0_pay4 x) (k0_pay5 x) (k0_pay6 x)

/-- One block's summed squared difference, repeated along its row. -/
def lossB (x : Vec F S1x64x32x32 .f32) (s k : FVec F S64x1024 .f32) : FVec F S1x1x1024 .f32 :=
  k0_pay11 (k0_pay1 x) (k0_pay2 s) (k0_pay3 k) (k0_pay4 x) (k0_pay5 x) (k0_pay6 x)

/-- The whole quantized array. -/
def quantA (a : FVec F S32x64x32x32 .f32) (s k : FVec F S64x1024 .f32) : FVec F S32x64x32x32 .f32 := fun i =>
  quantB (image a (i 0)) s k (ix4 0 (i 1 : Fin 64) (i 2 : Fin 32) (i 3 : Fin 32))

/-- The whole array of indices, one row per image. -/
def indexA (a : FVec F S32x64x32x32 .f32) (s k : FVec F S64x1024 .f32) : IVec S32x1x1024 32 := fun i =>
  indexB (image a (i 0)) s k (ix3 0 0 (i 2 : Fin 1024))

/-- The whole array of sums, one row per image. -/
def lossA (a : FVec F S32x64x32x32 .f32) (s k : FVec F S64x1024 .f32) : FVec F S32x1x1024 .f32 := fun i =>
  lossB (image a (i 0)) s k (ix3 0 0 (i 2 : Fin 1024))

/-- What the host makes of the sums: the first of each row, added up, times `1.25 / 2097152`. -/
def lossOf (l : FVec F S32x1x1024 .f32) : FVec F S_ .f32 :=
  mulf (Host.reduceAdd
      (shapeCast S32 (extractStridedSlice S32x1x1 ![0, 0, 0] l slices_S32x1x1024_S32x1x1_0_0_0) shapeCasts_S32x1x1_S32)
      (constant S_ .f32 0x00000000#32) reducesTo_S32_S_d0 h_S_)
    (constant S_ .f32 0x35200000#32)

/-- What the host makes of the indices: one row after the other. -/
def indexOf (i : IVec S32x1x1024 32) : IVec S32768 32 := shapeCast S32768 i shapeCasts_S32x1x1024_S32768

end Cert.VQ.Ker

end
-- ==== Proof.KerRun.lean ====
/-
  The kernel's run: from any memory, every weakly fair execution ends with the three results at the values of
  Proof/Ker.lean and with the arguments unchanged.  Each result array of the launch is the blocks written back at the
  thirty-two grid points, block `t` being image `t`'s, which tile it; the host's operations before and after are read off
  in order.
-/
module

public import proofs.«01_k».proof.Proof.Ker
public import proofs.«01_k».proof.Proof.Gen.KernelIdeal.Frame
public import Idealize.ShloMosaic.Lib.Pipeline.Value
public import Idealize.ShloMosaic.Lib.StableHlo.Run

@[expose] public section

set_option maxRecDepth 16384

noncomputable section

namespace Cert.VQ.Ker

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Where a block lies in its array -/

/-- A grid point as an image's number. -/
abbrev imageNo (t : Fin cfg0.N) : Fin 32 := t.cast N_0

/-- The latents' block at point `t` is image `t`, -/
theorem index0 : ∀ t : Fin cfg0.N, win0_0.index t (0 : Fin 4) = t.val ∧ win0_0.index t (1 : Fin 4) = 0
    ∧ win0_0.index t (2 : Fin 4) = 0 ∧ win0_0.index t (3 : Fin 4) = 0 := (by decide +kernel : ∀ t : Fin grid0.N, _)
/-- the scaled codebook's is the whole of it, -/
theorem index1 : ∀ t : Fin cfg0.N, win0_1.index t (0 : Fin 2) = 0 ∧ win0_1.index t (1 : Fin 2) = 0 :=
  (by decide +kernel : ∀ t : Fin grid0.N, _)
/-- and so is the codebook's; -/
theorem index2 : ∀ t : Fin cfg0.N, win0_2.index t (0 : Fin 2) = 0 ∧ win0_2.index t (1 : Fin 2) = 0 :=
  (by decide +kernel : ∀ t : Fin grid0.N, _)
/-- the quantized array's is image `t`, -/
theorem index3 : ∀ t : Fin cfg0.N, win0_3.index t (0 : Fin 4) = t.val ∧ win0_3.index t (1 : Fin 4) = 0
    ∧ win0_3.index t (2 : Fin 4) = 0 ∧ win0_3.index t (3 : Fin 4) = 0 := (by decide +kernel : ∀ t : Fin grid0.N, _)
/-- the indices' is row `t`, -/
theorem index4 : ∀ t : Fin cfg0.N, win0_4.index t (0 : Fin 3) = t.val ∧ win0_4.index t (1 : Fin 3) = 0
    ∧ win0_4.index t (2 : Fin 3) = 0 := (by decide +kernel : ∀ t : Fin grid0.N, _)
/-- and the sums' is row `t`. -/
theorem index5 : ∀ t : Fin cfg0.N, win0_5.index t (0 : Fin 3) = t.val ∧ win0_5.index t (1 : Fin 3) = 0
    ∧ win0_5.index t (2 : Fin 3) = 0 := (by decide +kernel : ∀ t : Fin grid0.N, _)

/-- Where an entry of the latents' block lies in the array, -/
theorem emb0 (t : Fin cfg0.N) (j : S1x64x32x32.Idx) :
    (((cfg0.win 0).blk t).view.emb j : S32x64x32x32.Idx) = ix4 (imageNo t) (j 1 : Fin 64) (j 2 : Fin 32) (j 3 : Fin 32) := by
  obtain ⟨e0, e1, e2, e3⟩ := index0 t
  have h0 : (j 0).val < 1 := (j 0).isLt
  funext a; apply Fin.ext
  match a with
  | ⟨0, _⟩ => show win0_0.index t (0 : Fin 4) * 1 + 1 * (j 0).val = t.val; omega
  | ⟨1, _⟩ => show win0_0.index t (1 : Fin 4) * 64 + 1 * (j 1).val = (j 1).val; omega
  | ⟨2, _⟩ => show win0_0.index t (2 : Fin 4) * 32 + 1 * (j 2).val = (j 2).val; omega
  | ⟨3, _⟩ => show win0_0.index t (3 : Fin 4) * 32 + 1 * (j 3).val = (j 3).val; omega

/-- of the scaled codebook's, -/
theorem emb1 (t : Fin cfg0.N) (j : S64x1024.Idx) : ((cfg0.win 1).blk t).view.emb j = j := by
  obtain ⟨e0, e1⟩ := index1 t
  funext a; apply Fin.ext
  match a with
  | ⟨0, _⟩ => show win0_1.index t (0 : Fin 2) * 64 + 1 * (j 0).val = (j 0).val; omega
  | ⟨1, _⟩ => show win0_1.index t (1 : Fin 2) * 1024 + 1 * (j 1).val = (j 1).val; omega

/-- of the codebook's, -/
theorem emb2 (t : Fin cfg0.N) (j : S64x1024.Idx) : ((cfg0.win 2).blk t).view.emb j = j := by
  obtain ⟨e0, e1⟩ := index2 t
  funext a; apply Fin.ext
  match a with
  | ⟨0, _⟩ => show win0_2.index t (0 : Fin 2) * 64 + 1 * (j 0).val = (j 0).val; omega
  | ⟨1, _⟩ => show win0_2.index t (1 : Fin 2) * 1024 + 1 * (j 1).val = (j 1).val; omega

/-- of the quantized array's, -/
theorem emb3 (t : Fin cfg0.N) (j : S1x64x32x32.Idx) :
    (((cfg0.win 3).blk t).view.emb j : S32x64x32x32.Idx) = ix4 (imageNo t) (j 1 : Fin 64) (j 2 : Fin 32) (j 3 : Fin 32) := by
  obtain ⟨e0, e1, e2, e3⟩ := index3 t
  have h0 : (j 0).val < 1 := (j 0).isLt
  funext a; apply Fin.ext
  match a with
  | ⟨0, _⟩ => show win0_3.index t (0 : Fin 4) * 1 + 1 * (j 0).val = t.val; omega
  | ⟨1, _⟩ => show win0_3.index t (1 : Fin 4) * 64 + 1 * (j 1).val = (j 1).val; omega
  | ⟨2, _⟩ => show win0_3.index t (2 : Fin 4) * 32 + 1 * (j 2).val = (j 2).val; omega
  | ⟨3, _⟩ => show win0_3.index t (3 : Fin 4) * 32 + 1 * (j 3).val = (j 3).val; omega

/-- of the indices', -/
theorem emb4 (t : Fin cfg0.N) (j : S1x1x1024.Idx) :
    (((cfg0.win 4).blk t).view.emb j : S32x1x1024.Idx) = ix3 (imageNo t) 0 (j 2 : Fin 1024) := by
  obtain ⟨e0, e1, e2⟩ := index4 t
  have h0 : (j 0).val < 1 := (j 0).isLt
  have h1 : (j 1).val < 1 := (j 1).isLt
  funext a; apply Fin.ext
  match a with
  | ⟨0, _⟩ => show win0_4.index t (0 : Fin 3) * 1 + 1 * (j 0).val = t.val; omega
  | ⟨1, _⟩ => show win0_4.index t (1 : Fin 3) * 1 + 1 * (j 1).val = 0; omega
  | ⟨2, _⟩ => show win0_4.index t (2 : Fin 3) * 1024 + 1 * (j 2).val = (j 2).val; omega

/-- and of the sums'. -/
theorem emb5 (t : Fin cfg0.N) (j : S1x1x1024.Idx) :
    (((cfg0.win 5).blk t).view.emb j : S32x1x1024.Idx) = ix3 (imageNo t) 0 (j 2 : Fin 1024) := by
  obtain ⟨e0, e1, e2⟩ := index5 t
  have h0 : (j 0).val < 1 := (j 0).isLt
  have h1 : (j 1).val < 1 := (j 1).isLt
  funext a; apply Fin.ext
  match a with
  | ⟨0, _⟩ => show win0_5.index t (0 : Fin 3) * 1 + 1 * (j 0).val = t.val; omega
  | ⟨1, _⟩ => show win0_5.index t (1 : Fin 3) * 1 + 1 * (j 1).val = 0; omega
  | ⟨2, _⟩ => show win0_5.index t (2 : Fin 3) * 1024 + 1 * (j 2).val = (j 2).val; omega

/-! ## What the region finds -/

/-- The region finds the codebook with one code per column, -/
theorem V_columns (c : Dev nD) : V m c main_v0 = columns (m ((c : Thread nD τ).loc main_arg1)) := by
  show StableHlo.after hostOps0 _ (Proc.devRef .tc main_v0) = _
  simp only [hostOps0]; after_results_simp <;> rfl

/-- and that codebook times `-2`. -/
theorem V_scaled (c : Dev nD) : V m c main_v2 = scaled (m ((c : Thread nD τ).loc main_arg1)) := by
  show StableHlo.after hostOps0 _ (Proc.devRef .tc main_v2) = _
  simp only [hostOps0]; after_results_simp <;> rfl

/-- Point `t` reads image `t`, -/
theorem iblk0 (c : Dev nD) (t : Fin cfg0.N) : iblk m c 0 t = image (m ((c : Thread nD τ).loc main_arg0)) (imageNo t) := by
  funext j
  show V m c main_arg0 (((cfg0.win 0).blk t).view.emb j) = _
  rw [emb0, V_main_arg0]; rfl

/-- the scaled codebook, -/
theorem iblk1 (c : Dev nD) (t : Fin cfg0.N) : iblk m c 1 t = scaled (m ((c : Thread nD τ).loc main_arg1)) := by
  funext j
  show V m c main_v2 (((cfg0.win 1).blk t).view.emb j) = _
  rw [emb1, V_scaled]

/-- and the codebook in columns. -/
theorem iblk2 (c : Dev nD) (t : Fin cfg0.N) : iblk m c 2 t = columns (m ((c : Thread nD τ).loc main_arg1)) := by
  funext j
  show V m c main_v0 (((cfg0.win 2).blk t).view.emb j) = _
  rw [emb2, V_columns]

/-! ## What the body leaves -/

/-- Two offsets of zero, -/
theorem hz2 : (![0, 0] : Fin 2 → Nat) = fun _ => 0 := funext fun a => by fin_cases a <;> rfl
/-- three -/
theorem hz3 : (![0, 0, 0] : Fin 3 → Nat) = fun _ => 0 := funext fun a => by fin_cases a <;> rfl
/-- and four. -/
theorem hz4 : (![0, 0, 0, 0] : Fin 4 → Nat) = fun _ => 0 := funext fun a => by fin_cases a <;> rfl

/-- The body leaves the block's quantized image, -/
theorem out3_eq (x : Vec F S1x64x32x32 .f32) (s k : Vec F S64x1024 .f32) : out0_3 x s k = quantB x s k := by
  unfold_out out0_3
  rw [View.canon_unit_zero hz4, View.ld_unit_zero hz4, View.ld_unit_zero hz2, View.ld_unit_zero hz2]
  rfl

/-- its indices, -/
theorem out4_eq (x : Vec F S1x64x32x32 .f32) (s k : Vec F S64x1024 .f32) : out0_4 x s k = indexB x s k := by
  unfold_out out0_4
  rw [View.canon_unit_zero hz3, View.ld_unit_zero hz4, View.ld_unit_zero hz2, View.ld_unit_zero hz2]
  rfl

/-- and its sum. -/
theorem out5_eq (x : Vec F S1x64x32x32 .f32) (s k : Vec F S64x1024 .f32) : out0_5 x s k = lossB x s k := by
  unfold_out out0_5
  rw [View.canon_unit_zero hz3, View.ld_unit_zero hz4, View.ld_unit_zero hz2, View.ld_unit_zero hz2]
  rfl

/-! ## The launch's three result arrays -/

/-- The quantized array of device `c`. -/
abbrev quantAt (c : Dev nD) : Buf (Elt F) ((c : Thread nD τ).loc main_v3_0) :=
  quantA (m ((c : Thread nD τ).loc main_arg0)) (scaled (m ((c : Thread nD τ).loc main_arg1)))
    (columns (m ((c : Thread nD τ).loc main_arg1)))

/-- The array of indices of device `c`. -/
abbrev indexAt (c : Dev nD) : Buf (Elt F) ((c : Thread nD τ).loc main_v3_1) :=
  indexA (m ((c : Thread nD τ).loc main_arg0)) (scaled (m ((c : Thread nD τ).loc main_arg1)))
    (columns (m ((c : Thread nD τ).loc main_arg1)))

/-- The array of sums of device `c`. -/
abbrev lossAt (c : Dev nD) : Buf (Elt F) ((c : Thread nD τ).loc main_v3_2) :=
  lossA (m ((c : Thread nD τ).loc main_arg0)) (scaled (m ((c : Thread nD τ).loc main_arg1)))
    (columns (m ((c : Thread nD τ).loc main_arg1)))

/-- What point `t` writes back is block `t` of the quantized array, -/
theorem flushed3 (c : Dev nD) (t : Fin cfg0.N) :
    (dats m 0 c).flushed 3 t = (win0_3.blk t).view.read (Elt F) (quantAt m c) := by
  show (cfg0.win 3).cut (grid0.coords t) ((dats m 0 c).after 3 t) = _
  rw [after0_3, iblk0, iblk1, iblk2, out3_eq]
  funext j
  have h0 : j = (ix4 0 (j 1 : Fin 64) (j 2 : Fin 32) (j 3 : Fin 32) : S1x64x32x32.Idx) := by
    funext a; apply Fin.ext
    match a with
    | ⟨0, _⟩ => show (j 0).val = 0; have : (j 0).val < 1 := (j 0).isLt; omega
    | ⟨1, _⟩ => rfl
    | ⟨2, _⟩ => rfl
    | ⟨3, _⟩ => rfl
  show quantB _ _ _ j = quantAt m c (((cfg0.win 3).blk t).view.emb j)
  rw [emb3]
  show quantB _ _ _ j = quantB _ _ _ (ix4 0 (j 1 : Fin 64) (j 2 : Fin 32) (j 3 : Fin 32))
  exact congrArg _ h0

/-- of the indices, -/
theorem flushed4 (c : Dev nD) (t : Fin cfg0.N) :
    (dats m 0 c).flushed 4 t = (win0_4.blk t).view.read (Elt F) (indexAt m c) := by
  show (cfg0.win 4).cut (grid0.coords t) ((dats m 0 c).after 4 t) = _
  rw [after0_4, iblk0, iblk1, iblk2, out4_eq]
  funext j
  have h0 : j = (ix3 0 0 (j 2 : Fin 1024) : S1x1x1024.Idx) := by
    funext a; apply Fin.ext
    match a with
    | ⟨0, _⟩ => show (j 0).val = 0; have : (j 0).val < 1 := (j 0).isLt; omega
    | ⟨1, _⟩ => show (j 1).val = 0; have : (j 1).val < 1 := (j 1).isLt; omega
    | ⟨2, _⟩ => rfl
  show indexB _ _ _ j = indexAt m c (((cfg0.win 4).blk t).view.emb j)
  rw [emb4]
  show indexB _ _ _ j = indexB _ _ _ (ix3 0 0 (j 2 : Fin 1024))
  exact congrArg _ h0

/-- and of the sums. -/
theorem flushed5 (c : Dev nD) (t : Fin cfg0.N) :
    (dats m 0 c).flushed 5 t = (win0_5.blk t).view.read (Elt F) (lossAt m c) := by
  show (cfg0.win 5).cut (grid0.coords t) ((dats m 0 c).after 5 t) = _
  rw [after0_5, iblk0, iblk1, iblk2, out5_eq]
  funext j
  have h0 : j = (ix3 0 0 (j 2 : Fin 1024) : S1x1x1024.Idx) := by
    funext a; apply Fin.ext
    match a with
    | ⟨0, _⟩ => show (j 0).val = 0; have : (j 0).val < 1 := (j 0).isLt; omega
    | ⟨1, _⟩ => show (j 1).val = 0; have : (j 1).val < 1 := (j 1).isLt; omega
    | ⟨2, _⟩ => rfl
  show lossB _ _ _ j = lossAt m c (((cfg0.win 5).blk t).view.emb j)
  rw [emb5]
  show lossB _ _ _ j = lossB _ _ _ (ix3 0 0 (j 2 : Fin 1024))
  exact congrArg _ h0

/-- The blocks tile the quantized array: index `i` is in image `i 0`'s, -/
theorem cover3 (i : S32x64x32x32.Idx) :
    ∃ t : Fin cfg0.N, (cfg0.win 3).flush t = true ∧ i ∈ ((cfg0.win 3).blk t).view.set := by
  refine ⟨(Fin.cast N_0.symm (i 0 : Fin 32) : Fin cfg0.N), flush0_3 _, ?_⟩
  have h := ((cfg0.win 3).blk (Fin.cast N_0.symm (i 0 : Fin 32) : Fin cfg0.N)).view.emb_mem_set
    (ix4 0 (i 1 : Fin 64) (i 2 : Fin 32) (i 3 : Fin 32) : S1x64x32x32.Idx)
  rw [emb3] at h
  have e : (ix4 (imageNo (Fin.cast N_0.symm (i 0 : Fin 32))) (i 1 : Fin 64) (i 2 : Fin 32) (i 3 : Fin 32)
      : S32x64x32x32.Idx) = i := by
    funext a
    match a with
    | ⟨0, _⟩ => rfl
    | ⟨1, _⟩ => rfl
    | ⟨2, _⟩ => rfl
    | ⟨3, _⟩ => rfl
  exact e ▸ h

/-- the array of indices, -/
theorem cover4 (i : S32x1x1024.Idx) :
    ∃ t : Fin cfg0.N, (cfg0.win 4).flush t = true ∧ i ∈ ((cfg0.win 4).blk t).view.set := by
  refine ⟨(Fin.cast N_0.symm (i 0 : Fin 32) : Fin cfg0.N), flush0_4 _, ?_⟩
  have h := ((cfg0.win 4).blk (Fin.cast N_0.symm (i 0 : Fin 32) : Fin cfg0.N)).view.emb_mem_set
    (ix3 0 0 (i 2 : Fin 1024) : S1x1x1024.Idx)
  rw [emb4] at h
  have e : (ix3 (imageNo (Fin.cast N_0.symm (i 0 : Fin 32))) 0 (i 2 : Fin 1024) : S32x1x1024.Idx) = i := by
    funext a
    match a with
    | ⟨0, _⟩ => rfl
    | ⟨1, _⟩ => apply Fin.ext; show 0 = (i 1).val; have : (i 1).val < 1 := (i 1).isLt; omega
    | ⟨2, _⟩ => rfl
  exact e ▸ h

/-- and the array of sums. -/
theorem cover5 (i : S32x1x1024.Idx) :
    ∃ t : Fin cfg0.N, (cfg0.win 5).flush t = true ∧ i ∈ ((cfg0.win 5).blk t).view.set := by
  refine ⟨(Fin.cast N_0.symm (i 0 : Fin 32) : Fin cfg0.N), flush0_5 _, ?_⟩
  have h := ((cfg0.win 5).blk (Fin.cast N_0.symm (i 0 : Fin 32) : Fin cfg0.N)).view.emb_mem_set
    (ix3 0 0 (i 2 : Fin 1024) : S1x1x1024.Idx)
  rw [emb5] at h
  have e : (ix3 (imageNo (Fin.cast N_0.symm (i 0 : Fin 32))) 0 (i 2 : Fin 1024) : S32x1x1024.Idx) = i := by
    funext a
    match a with
    | ⟨0, _⟩ => rfl
    | ⟨1, _⟩ => apply Fin.ext; show 0 = (i 1).val; have : (i 1).val < 1 := (i 1).isLt; omega
    | ⟨2, _⟩ => rfl
  exact e ▸ h

/-- After all points the quantized array is whole, -/
theorem final3 (c : Dev nD) : (dats m 0 c).arrAt 3 cfg0.N = quantAt m c :=
  (dats m 0 c).arrAt_eq_of_cover 3 (quantAt m c) (fun t _ => flushed3 m c t) cover3
/-- so are the indices, -/
theorem final4 (c : Dev nD) : (dats m 0 c).arrAt 4 cfg0.N = indexAt m c :=
  (dats m 0 c).arrAt_eq_of_cover 4 (indexAt m c) (fun t _ => flushed4 m c t) cover4
/-- and so are the sums. -/
theorem final5 (c : Dev nD) : (dats m 0 c).arrAt 5 cfg0.N = lossAt m c :=
  (dats m 0 c).arrAt_eq_of_cover 5 (lossAt m c) (fun t _ => flushed5 m c t) cover5

/-! ## What the host makes of them -/

/-- After the launch the host makes the loss of the sums, -/
theorem tail7 (W : Valuation τ sig (Elt F)) :
    StableHlo.after hostOps1 W (Proc.devRef .tc main_v7) = lossOf (W (Proc.devRef .tc main_v3_2)) := by
  simp only [hostOps1]; after_results_simp <;> rfl
/-- and the flat indices of the rows. -/
theorem tail8 (W : Valuation τ sig (Elt F)) :
    StableHlo.after hostOps1 W (Proc.devRef .tc main_v8) = indexOf (W (Proc.devRef .tc main_v3_1)) := by
  simp only [hostOps1]; after_results_simp <;> rfl

/-- The launch's arrays are different buffers. -/
theorem arrays_ne : Function.Injective (Pipeline.arrRef spec0) := by decide

/-- So the run ends with the loss -/
theorem end7 (c : Dev nD) :
    Pipeline.afterTail₀ cfgs (dats m) 0 (V0 m) [hostOps1] c main_v7 = lossOf (lossAt m c) := by
  unfold Pipeline.afterTail₀
  rw [show [hostOps1 (F := F)].flatten = hostOps1 from List.append_nil _, tail7]
  exact congrArg lossOf ((Pipeline.withArrays_arr spec0 arrays_ne c (V0 m c) _ 5).trans (final5 m c))

/-- and with the flat indices. -/
theorem end8 (c : Dev nD) :
    Pipeline.afterTail₀ cfgs (dats m) 0 (V0 m) [hostOps1] c main_v8 = indexOf (indexAt m c) := by
  unfold Pipeline.afterTail₀
  rw [show [hostOps1 (F := F)].flatten = hostOps1 from List.append_nil _, tail8]
  exact congrArg indexOf ((Pipeline.withArrays_arr spec0 arrays_ne c (V0 m c) _ 4).trans (final4 m c))

/-- From any memory every weakly fair execution ends with the three results at these values, the arguments unchanged. -/
theorem run : θ_run defs (onTc (τ := τ) (main (F := F))) ⟨m, fun _ => 0, ρ⟩ (fun r => ∀ c : Dev nD,
      r.2.mem ((c.tc : Thread nD τ).loc main_v3_0) = quantAt m c
      ∧ r.2.mem ((c.tc : Thread nD τ).loc main_v7) = lossOf (lossAt m c)
      ∧ r.2.mem ((c.tc : Thread nD τ).loc main_v8) = indexOf (indexAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 3).trans (final3 m c),
      ((h.1 c).2 main_v7 (Pipeline.mem_restRefs_of main_v7 (by decide) (by decide))).trans (end7 m c),
      ((h.1 c).2 main_v8 (Pipeline.mem_restRefs_of main_v8 (by decide) (by decide))).trans (end8 m c),
      (h.2 c).1, (h.2 c).2⟩)
    (θ_run_and (run_main m ρ) (unchanged m ρ))

end Cert.VQ.Ker

end
-- ==== Proof.Ref.lean ====
/-
  What the reference computes, stage by stage, as plain functions of its two arguments `a` (the latents, batch by
  channel by height by width) and `b` (the codebook, one code per row).  Nothing is run here and nothing is proved:
  Proof/RefRun.lean shows that the reference's run ends with these values.
-/
module

public import proofs.«01_k».proof.Proof.Gen.ReferenceIdeal

@[expose] public section

set_option maxRecDepth 16384

noncomputable section

namespace Cert.VQ.Ref

open Cert.ReferenceIdeal Cert.ReferenceIdeal.Gen Idealize.ShloMosaic

variable {F : FTy → Type} [FloatOps F]

/-- The latents with channels last, one pixel per row. -/
def flat (a : FVec F S32x64x32x32 .f32) : FVec F S32768x64 .f32 :=
  shapeCast S32768x64 (transpose S32x32x32x64 [0, 2, 3, 1] a transposes_S32x64x32x32_S32x32x32x64_0_2_3_1)
    shapeCasts_S32x32x32x64_S32768x64

/-- Each pixel's squared length. -/
def pixelSq (x : FVec F S32768x64 .f32) : FVec F S32768 .f32 :=
  Host.reduceAdd (mulf x x) (constant S_ .f32 0x00000000#32) reducesTo_S32768x64_S32768_d1 h_S_

/-- Each code's squared length. -/
def codeSq (b : FVec F S1024x64 .f32) : FVec F S1024 .f32 :=
  Host.reduceAdd (mulf b b) (constant S_ .f32 0x00000000#32) reducesTo_S1024x64_S1024_d1 h_S_

/-- Twice each pixel's inner product with each code. -/
def cross (x : FVec F S32768x64 .f32) (b : FVec F S1024x64 .f32) : FVec F S32768x1024 .f32 :=
  Host.dotGeneral dot_S32768x64_S64x1024_S32768x1024_1_0_0_1_n_n none
    (mulf (broadcastInDim S32768x64 ![] bcast_S_S32768x64 (constant S_ .f32 0x40000000#32)) x)
    (transpose S64x1024 [1, 0] b transposes_S1024x64_S64x1024_1_0)

/-- The distance of each pixel to each code. -/
def dist (x : FVec F S32768x64 .f32) (b : FVec F S1024x64 .f32) : FVec F S32768x1024 .f32 :=
  Host.sqrt (maximumf
    (addf
      (subf (broadcastInDim S32768x1024 ![0, 1] bcast_S32768x1_S32768x1024_0_1
          (broadcastInDim S32768x1 ![0] bcast_S32768_S32768x1_0 (pixelSq x)))
        (cross x b))
      (broadcastInDim S32768x1024 ![0, 1] bcast_S1x1024_S32768x1024_0_1
        (broadcastInDim S1x1024 ![1] bcast_S1024_S1x1024_1 (codeSq b))))
    (broadcastInDim S32768x1024 ![] bcast_S_S32768x1024 (constant S_ .f32 0x00000000#32)))

/-- The index of the nearest code of each pixel, the first one among equals. -/
def nearest (d : FVec F S32768x1024 .f32) : IVec S32768 32 := fun j =>
  (Host.argReduce reducer_argmin_f32_i32 d (iotaInDim S32768x1024 32 1) (constant S_ .f32 0x7F800000#32)
    (constantI S_ 32 0#32) reducesTo_S32768x1024_S32768_d1 h_S_ j).2

/-- An index counted from the end when it is negative, as a column. -/
def wrapped (i : IVec S32768 32) : IVec S32768x1 32 :=
  broadcastInDim S32768x1 ![0] bcast_S32768_S32768x1_0
    (select (cmpi .slt i (broadcastInDim S32768 ![] bcast_S_S32768 (constantI S_ 32 0#32)))
      (addi i (broadcastInDim S32768 ![] bcast_S_S32768 (constantI S_ 32 1024#32))) i)

/-- Whether each index is a row of the codebook. -/
def inside (w : IVec S32768x1 32) : IVec S32768 1 :=
  Host.reduce IntOp.andi
    (andi (cmpi .sge w (broadcastInDim S32768x1 ![] bcast_S_S32768x1 (constantI S_ 32 0#32)))
      (cmpi .sle w (broadcastInDim S32768x1 ![0, 1] bcast_S1x1_S32768x1_0_1
        (broadcastInDim S1x1 ![1] bcast_S1_S1x1_1 (constantI S1 32 1023#32)))))
    (constantI S_ 1 1#1) reducesTo_S32768x1_S32768_d1 h_S_

/-- The codebook's rows at the indices `i`; a row of the fill value where an index is outside. -/
def taken (b : FVec F S1024x64 .f32) (i : IVec S32768 32) : FVec F S32768x64 .f32 :=
  select (broadcastInDim S32768x64 ![0] bcast_S32768_S32768x64_0 (inside (wrapped i)))
    (Host.gather gather_S1024x64_S32768x1_S32768x64_1_0_n_n_0_1_164 b (wrapped i))
    (broadcastInDim S32768x64 ![] bcast_S_S32768x64 (constant S_ .f32 0x7FC00000#32))

/-- The mean of the squared differences. -/
def meanSq (q x : FVec F S32768x64 .f32) : FVec F S_ .f32 :=
  Host.divf (Host.reduceAdd (mulf (subf q x) (subf q x)) (constant S_ .f32 0x00000000#32)
    reducesTo_S32768x64_S_d0_1 h_S_) (constant S_ .f32 0x4A000000#32)

/-- The loss: a quarter of the mean (the commitment term) plus the mean (the codebook term). -/
def loss (q x : FVec F S32768x64 .f32) : FVec F S_ .f32 :=
  addf (mulf (meanSq q x) (constant S_ .f32 0x3E800000#32)) (meanSq q x)

/-- The quantized latents `x + (q − x)`, back with channels second. -/
def quantized (q x : FVec F S32768x64 .f32) : FVec F S32x64x32x32 .f32 :=
  transpose S32x64x32x32 [0, 3, 1, 2] (shapeCast S32x32x32x64 (addf x (subf q x)) shapeCasts_S32768x64_S32x32x32x64)
    transposes_S32x32x32x64_S32x64x32x32_0_3_1_2

/-- The indices the reference returns. -/
def indices (a : FVec F S32x64x32x32 .f32) (b : FVec F S1024x64 .f32) : IVec S32768 32 := nearest (dist (flat a) b)

/-- The codes of those indices. -/
def codes (a : FVec F S32x64x32x32 .f32) (b : FVec F S1024x64 .f32) : FVec F S32768x64 .f32 := taken b (indices a b)

end Cert.VQ.Ref

end
-- ==== Proof.RefRun.lean ====
/-
  The reference's run: from any memory, every weakly fair execution ends with the three results at the stage values of
  Proof/Ref.lean and with the arguments unchanged.  The program is a straight line of host operations, which is read in
  four pieces: the distances, the nearest indices, the codes taken at them, and what is made of the codes.
-/
module

public import proofs.«01_k».proof.Proof.Ref
public import Idealize.ShloMosaic.Lib.StableHlo.Run
public import Idealize.ShloMosaic.Lib.Pipeline.Frame

@[expose] public section

set_option maxRecDepth 16384

noncomputable section

namespace Cert.VQ.Ref

open Cert.ReferenceIdeal Cert.ReferenceIdeal.Gen Idealize.ShloMosaic Idealize.ShloMosaic.TcCoe Idealize.SL.Sem
open Idealize.ShloMosaic.StableHlo

variable {F : FTy → Type} [FloatOps F]

/-- From the arguments to the distances. -/
def opsDist : List (HloOp τ sig (Elt F)) :=
  [ unary main_arg0 main_v0 ((transpose S32x32x32x64 [0, 2, 3, 1] · transposes_S32x64x32x32_S32x32x32x64_0_2_3_1) : (⟨S32x64x32x32, .f32⟩ : BufTy).Contents (Elt F) → (⟨S32x32x32x64, .f32⟩ : BufTy).Contents (Elt F)),
    reshape main_v0 main_v1 (rfl : (.f32 : EltTy) = .f32) shapeCasts_S32x32x32x64_S32768x64,
    binary main_v1 main_v1 main_v2 (mulf : (⟨S32768x64, .f32⟩ : BufTy).Contents (Elt F) → (⟨S32768x64, .f32⟩ : BufTy).Contents (Elt F) → (⟨S32768x64, .f32⟩ : BufTy).Contents (Elt F)),
    nullary main_cst (constant S_ .f32 0x00000000#32),
    binary main_v2 main_cst main_v3 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    unary main_v3 main_v4 (broadcastInDim S32768x1 ![0] bcast_S32768_S32768x1_0 : (⟨S32768, .f32⟩ : BufTy).Contents (Elt F) → (⟨S32768x1, .f32⟩ : BufTy).Contents (Elt F)),
    nullary main_cst_0 (constant S_ .f32 0x40000000#32),
    unary main_cst_0 main_v5 (broadcastInDim S32768x64 ![] bcast_S_S32768x64 : (⟨S_, .f32⟩ : BufTy).Contents (Elt F) → (⟨S32768x64, .f32⟩ : BufTy).Contents (Elt F)),
    binary main_v5 main_v1 main_v6 (mulf : (⟨S32768x64, .f32⟩ : BufTy).Contents (Elt F) → (⟨S32768x64, .f32⟩ : BufTy).Contents (Elt F) → (⟨S32768x64, .f32⟩ : BufTy).Contents (Elt F)),
    unary main_arg1 main_v7 ((transpose S64x1024 [1, 0] · transposes_S1024x64_S64x1024_1_0) : (⟨S1024x64, .f32⟩ : BufTy).Contents (Elt F) → (⟨S64x1024, .f32⟩ : BufTy).Contents (Elt F)),
    binary main_v6 main_v7 main_v8 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
    unary main_v4 main_v9 (broadcastInDim S32768x1024 ![0, 1] bcast_S32768x1_S32768x1024_0_1 : (⟨S32768x1, .f32⟩ : BufTy).Contents (Elt F) → (⟨S32768x1024, .f32⟩ : BufTy).Contents (Elt F)),
    binary main_v9 main_v8 main_v10 (subf : (⟨S32768x1024, .f32⟩ : BufTy).Contents (Elt F) → (⟨S32768x1024, .f32⟩ : BufTy).Contents (Elt F) → (⟨S32768x1024, .f32⟩ : BufTy).Contents (Elt F)),
    binary main_arg1 main_arg1 main_v11 (mulf : (⟨S1024x64, .f32⟩ : BufTy).Contents (Elt F) → (⟨S1024x64, .f32⟩ : BufTy).Contents (Elt F) → (⟨S1024x64, .f32⟩ : BufTy).Contents (Elt F)),
    nullary main_cst_1 (constant S_ .f32 0x00000000#32),
    binary main_v11 main_cst_1 main_v12 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v12 main_v13 (broadcastInDim S1x1024 ![1] bcast_S1024_S1x1024_1 : (⟨S1024, .f32⟩ : BufTy).Contents (Elt F) → (⟨S1x1024, .f32⟩ : BufTy).Contents (Elt F)),
    unary main_v13 main_v14 (broadcastInDim S32768x1024 ![0, 1] bcast_S1x1024_S32768x1024_0_1 : (⟨S1x1024, .f32⟩ : BufTy).Contents (Elt F) → (⟨S32768x1024, .f32⟩ : BufTy).Contents (Elt F)),
    binary main_v10 main_v14 main_v15 (addf : (⟨S32768x1024, .f32⟩ : BufTy).Contents (Elt F) → (⟨S32768x1024, .f32⟩ : BufTy).Contents (Elt F) → (⟨S32768x1024, .f32⟩ : BufTy).Contents (Elt F)),
    nullary main_cst_2 (constant S_ .f32 0x00000000#32),
    unary main_cst_2 main_v16 (broadcastInDim S32768x1024 ![] bcast_S_S32768x1024 : (⟨S_, .f32⟩ : BufTy).Contents (Elt F) → (⟨S32768x1024, .f32⟩ : BufTy).Contents (Elt F)),
    binary main_v15 main_v16 main_v17 (maximumf : (⟨S32768x1024, .f32⟩ : BufTy).Contents (Elt F) → (⟨S32768x1024, .f32⟩ : BufTy).Contents (Elt F) → (⟨S32768x1024, .f32⟩ : BufTy).Contents (Elt F)),
    unary main_v17 main_v18 (Host.sqrt : (⟨S32768x1024, .f32⟩ : BufTy).Contents (Elt F) → (⟨S32768x1024, .f32⟩ : BufTy).Contents (Elt F)) ]

/-- The nearest index (the called function's operations, in its call's place). -/
def opsNearest : List (HloOp τ sig (Elt F)) :=
  [ TRef.nullary (TRef.of (T := ⟨S32768x1024, .i32⟩) main_call0_v0) (iotaInDim S32768x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S32768x1024, .f32⟩) main_v18) (TRef.of (T := ⟨S32768x1024, .i32⟩) main_call0_v0) (TRef.of (T := ⟨S_, .f32⟩) main_call0_cst) (TRef.of (T := ⟨S_, .i32⟩) main_call0_c) (TRef.of (T := ⟨S32768, .f32⟩) main_call0_v1_0) (fun x y u v j => (Host.argReduce reducer_argmin_f32_i32 x y u v reducesTo_S32768x1024_S32768_d1 h_S_ j).1),
    TRef.quaternary (TRef.of (T := ⟨S32768x1024, .f32⟩) main_v18) (TRef.of (T := ⟨S32768x1024, .i32⟩) main_call0_v0) (TRef.of (T := ⟨S_, .f32⟩) main_call0_cst) (TRef.of (T := ⟨S_, .i32⟩) main_call0_c) (TRef.of (T := ⟨S32768, .i32⟩) main_v19) (fun x y u v j => (Host.argReduce reducer_argmin_f32_i32 x y u v reducesTo_S32768x1024_S32768_d1 h_S_ j).2) ]

/-- The codes at those indices (the called function's operations, in its call's place). -/
def opsTaken : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S32768, .i32⟩) main_call1_v0) (broadcastInDim S32768 ![] bcast_S_S32768),
    TRef.binary (TRef.of (T := ⟨S32768, .i32⟩) main_v19) (TRef.of (T := ⟨S32768, .i32⟩) main_call1_v0) (TRef.of (T := ⟨S32768, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S32768, .i32⟩) main_call1_v2) (broadcastInDim S32768 ![] bcast_S_S32768),
    TRef.binary (TRef.of (T := ⟨S32768, .i32⟩) main_v19) (TRef.of (T := ⟨S32768, .i32⟩) main_call1_v2) (TRef.of (T := ⟨S32768, .i32⟩) main_call1_v3) addi,
    TRef.ternary (TRef.of (T := ⟨S32768, .i1⟩) main_call1_v1) (TRef.of (T := ⟨S32768, .i32⟩) main_call1_v3) (TRef.of (T := ⟨S32768, .i32⟩) main_v19) (TRef.of (T := ⟨S32768, .i32⟩) main_call1_v4) select,
    TRef.unary (TRef.of (T := ⟨S32768, .i32⟩) main_call1_v4) (TRef.of (T := ⟨S32768x1, .i32⟩) main_call1_v5) (broadcastInDim S32768x1 ![0] bcast_S32768_S32768x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S32768x1, .i32⟩) main_call1_v6) (broadcastInDim S32768x1 ![] bcast_S_S32768x1),
    TRef.binary (TRef.of (T := ⟨S32768x1, .i32⟩) main_call1_v5) (TRef.of (T := ⟨S32768x1, .i32⟩) main_call1_v6) (TRef.of (T := ⟨S32768x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S32768x1, .i32⟩) main_call1_v9) (broadcastInDim S32768x1 ![0, 1] bcast_S1x1_S32768x1_0_1),
    TRef.binary (TRef.of (T := ⟨S32768x1, .i32⟩) main_call1_v5) (TRef.of (T := ⟨S32768x1, .i32⟩) main_call1_v9) (TRef.of (T := ⟨S32768x1, .i1⟩) main_call1_v10) (cmpi .sle),
    TRef.binary (TRef.of (T := ⟨S32768x1, .i1⟩) main_call1_v7) (TRef.of (T := ⟨S32768x1, .i1⟩) main_call1_v10) (TRef.of (T := ⟨S32768x1, .i1⟩) main_call1_v11) andi,
    TRef.nullary (TRef.of (T := ⟨S_, .i1⟩) main_call1_c_3) (constantI S_ 1 1#1),
    TRef.binary (TRef.of (T := ⟨S32768x1, .i1⟩) main_call1_v11) (TRef.of (T := ⟨S_, .i1⟩) main_call1_c_3) (TRef.of (T := ⟨S32768, .i1⟩) main_call1_v12) (fun x v => Host.reduce IntOp.andi x v reducesTo_S32768x1_S32768_d1 h_S_),
    TRef.binary (TRef.of (T := ⟨S1024x64, .f32⟩) main_arg1) (TRef.of (T := ⟨S32768x1, .i32⟩) main_call1_v5) (TRef.of (T := ⟨S32768x64, .f32⟩) main_call1_v13) (fun x i => Host.gather gather_S1024x64_S32768x1_S32768x64_1_0_n_n_0_1_164 x i),
    TRef.unary (TRef.of (T := ⟨S32768, .i1⟩) main_call1_v12) (TRef.of (T := ⟨S32768x64, .i1⟩) main_call1_v14) (broadcastInDim S32768x64 ![0] bcast_S32768_S32768x64_0),
    TRef.nullary (TRef.of (T := ⟨S_, .f32⟩) main_call1_cst) (constant S_ .f32 0x7FC00000#32),
    TRef.unary (TRef.of (T := ⟨S_, .f32⟩) main_call1_cst) (TRef.of (T := ⟨S32768x64, .f32⟩) main_call1_v15) (broadcastInDim S32768x64 ![] bcast_S_S32768x64),
    TRef.ternary (TRef.of (T := ⟨S32768x64, .i1⟩) main_call1_v14) (TRef.of (T := ⟨S32768x64, .f32⟩) main_call1_v13) (TRef.of (T := ⟨S32768x64, .f32⟩) main_call1_v15) (TRef.of (T := ⟨S32768x64, .f32⟩) main_v20) select ]

/-- From the codes to the loss and the quantized latents. -/
def opsOut : List (HloOp τ sig (Elt F)) :=
  [ binary main_v20 main_v1 main_v21 (subf : (⟨S32768x64, .f32⟩ : BufTy).Contents (Elt F) → (⟨S32768x64, .f32⟩ : BufTy).Contents (Elt F) → (⟨S32768x64, .f32⟩ : BufTy).Contents (Elt F)),
    binary main_v21 main_v21 main_v22 (mulf : (⟨S32768x64, .f32⟩ : BufTy).Contents (Elt F) → (⟨S32768x64, .f32⟩ : BufTy).Contents (Elt F) → (⟨S32768x64, .f32⟩ : BufTy).Contents (Elt F)),
    nullary main_cst_3 (constant S_ .f32 0x00000000#32),
    binary main_v22 main_cst_3 main_v23 ((fun x v => Host.reduceAdd x v reducesTo_S32768x64_S_d0_1 h_S_) : (⟨S32768x64, .f32⟩ : BufTy).Contents (Elt F) → (⟨S_, .f32⟩ : BufTy).Contents (Elt F) → (⟨S_, .f32⟩ : BufTy).Contents (Elt F)),
    nullary main_cst_4 (constant S_ .f32 0x4A000000#32),
    binary main_v23 main_cst_4 main_v24 (Host.divf : (⟨S_, .f32⟩ : BufTy).Contents (Elt F) → (⟨S_, .f32⟩ : BufTy).Contents (Elt F) → (⟨S_, .f32⟩ : BufTy).Contents (Elt F)),
    binary main_v20 main_v1 main_v25 (subf : (⟨S32768x64, .f32⟩ : BufTy).Contents (Elt F) → (⟨S32768x64, .f32⟩ : BufTy).Contents (Elt F) → (⟨S32768x64, .f32⟩ : BufTy).Contents (Elt F)),
    binary main_v25 main_v25 main_v26 (mulf : (⟨S32768x64, .f32⟩ : BufTy).Contents (Elt F) → (⟨S32768x64, .f32⟩ : BufTy).Contents (Elt F) → (⟨S32768x64, .f32⟩ : BufTy).Contents (Elt F)),
    nullary main_cst_5 (constant S_ .f32 0x00000000#32),
    binary main_v26 main_cst_5 main_v27 ((fun x v => Host.reduceAdd x v reducesTo_S32768x64_S_d0_1 h_S_) : (⟨S32768x64, .f32⟩ : BufTy).Contents (Elt F) → (⟨S_, .f32⟩ : BufTy).Contents (Elt F) → (⟨S_, .f32⟩ : BufTy).Contents (Elt F)),
    nullary main_cst_6 (constant S_ .f32 0x4A000000#32),
    binary main_v27 main_cst_6 main_v28 (Host.divf : (⟨S_, .f32⟩ : BufTy).Contents (Elt F) → (⟨S_, .f32⟩ : BufTy).Contents (Elt F) → (⟨S_, .f32⟩ : BufTy).Contents (Elt F)),
    nullary main_cst_7 (constant S_ .f32 0x3E800000#32),
    binary main_v24 main_cst_7 main_v29 (mulf : (⟨S_, .f32⟩ : BufTy).Contents (Elt F) → (⟨S_, .f32⟩ : BufTy).Contents (Elt F) → (⟨S_, .f32⟩ : BufTy).Contents (Elt F)),
    binary main_v29 main_v28 main_v30 (addf : (⟨S_, .f32⟩ : BufTy).Contents (Elt F) → (⟨S_, .f32⟩ : BufTy).Contents (Elt F) → (⟨S_, .f32⟩ : BufTy).Contents (Elt F)),
    binary main_v20 main_v1 main_v31 (subf : (⟨S32768x64, .f32⟩ : BufTy).Contents (Elt F) → (⟨S32768x64, .f32⟩ : BufTy).Contents (Elt F) → (⟨S32768x64, .f32⟩ : BufTy).Contents (Elt F)),
    binary main_v1 main_v31 main_v32 (addf : (⟨S32768x64, .f32⟩ : BufTy).Contents (Elt F) → (⟨S32768x64, .f32⟩ : BufTy).Contents (Elt F) → (⟨S32768x64, .f32⟩ : BufTy).Contents (Elt F)),
    reshape main_v32 main_v33 (rfl : (.f32 : EltTy) = .f32) shapeCasts_S32768x64_S32x32x32x64,
    unary main_v33 main_v34 ((transpose S32x64x32x32 [0, 3, 1, 2] · transposes_S32x32x32x64_S32x64x32x32_0_3_1_2) : (⟨S32x32x32x64, .f32⟩ : BufTy).Contents (Elt F) → (⟨S32x64x32x32, .f32⟩ : BufTy).Contents (Elt F)) ]

/-- The whole program's operations, in order. -/
def ops : List (HloOp τ sig (Elt F)) := opsDist ++ (opsNearest ++ (opsTaken ++ opsOut))

set_option maxHeartbeats 4000000 in
/-- The program is that straight line. -/
theorem main_eq (c : Dev nD) : main (F := F) c = seq ops := rfl

/-- The program scopes no buffer, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- The operations of the distances: they touch main's buffers only. -/
theorem opsDist_sub : (opsDist : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., unary_bufs_sub ..⟩
/-- Those of the nearest indices: they touch main's buffers only. -/
theorem opsNearest_sub : (opsNearest : List (HloOp τ sig (Elt F))).Forall fun op => op.bufs ⊆ tcRefs τ sig :=
  ⟨nullary_bufs_sub .., nullary_bufs_sub .., nullary_bufs_sub .., quaternary_bufs_sub .., quaternary_bufs_sub ..⟩
/-- Those of the codes: they touch main's buffers only. -/
theorem opsTaken_sub : (opsTaken : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- Those of the results: they touch main's buffers only. -/
theorem opsOut_sub : (opsOut : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., reshape_bufs_sub .., unary_bufs_sub ..⟩
/-- The operations of the distances make no new buffer. -/
theorem opsDist_fresh : ∀ op ∈ (opsDist : List (HloOp τ sig (Elt F))), op.fresh = ∅ := by
  intro _ h; unfold opsDist at h; (repeat (cases h with | head => rfl | tail _ h => ?_)); exact nomatch h
/-- Those of the nearest indices make no new buffer. -/
theorem opsNearest_fresh : ∀ op ∈ (opsNearest : List (HloOp τ sig (Elt F))), op.fresh = ∅ := by
  intro _ h; unfold opsNearest at h; (repeat (cases h with | head => rfl | tail _ h => ?_)); exact nomatch h
/-- Those of the codes make no new buffer. -/
theorem opsTaken_fresh : ∀ op ∈ (opsTaken : List (HloOp τ sig (Elt F))), op.fresh = ∅ := by
  intro _ h; unfold opsTaken at h; (repeat (cases h with | head => rfl | tail _ h => ?_)); exact nomatch h
/-- Those of the results make no new buffer. -/
theorem opsOut_fresh : ∀ op ∈ (opsOut : List (HloOp τ sig (Elt F))), op.fresh = ∅ := by
  intro _ h; unfold opsOut at h; (repeat (cases h with | head => rfl | tail _ h => ?_)); exact nomatch h

/-- Every operation works on buffers of the TensorCore. -/
theorem ops_sub : (ops : List (HloOp τ sig (Elt F))).Forall fun op => op.bufs ⊆ tcRefs τ sig := by
  simp only [ops, List.forall_append]
  exact ⟨opsDist_sub, opsNearest_sub, opsTaken_sub, opsOut_sub⟩

/-- Every operation determines its result. -/
theorem ops_fresh : ∀ op ∈ (ops : List (HloOp τ sig (Elt F))), op.fresh = ∅ := by
  intro op h
  simp only [ops, List.mem_append] at h
  rcases h with h | h | h | h
  · exact opsDist_fresh op h
  · exact opsNearest_fresh op h
  · exact opsTaken_fresh op h
  · exact opsOut_fresh op h

set_option maxHeartbeats 4000000 in
/-- After the first piece: the flattened latents, the distances, and the arguments as they were. -/
theorem afterDist (V : Valuation τ sig (Elt F)) :
    after opsDist V (Proc.devRef .tc main_v1) = flat (V (Proc.devRef .tc main_arg0))
    ∧ after opsDist V (Proc.devRef .tc main_v18) = dist (flat (V (Proc.devRef .tc main_arg0))) (V (Proc.devRef .tc main_arg1))
    ∧ after opsDist V (Proc.devRef .tc main_arg0) = V (Proc.devRef .tc main_arg0)
    ∧ after opsDist V (Proc.devRef .tc main_arg1) = V (Proc.devRef .tc main_arg1) := by
  refine ⟨?_, ?_, ?_, ?_⟩ <;>
  (simp only [opsDist, TRef.binary, TRef.nullary, TRef.ternary, TRef.unary, TRef.quaternary, TRef.toBuf, TRef.ofBuf,
    cast_eq]; after_results_simp <;> rfl)

set_option maxHeartbeats 4000000 in
/-- After the second piece: the nearest indices, and what is used later as it was. -/
theorem afterNearest (V : Valuation τ sig (Elt F)) :
    after opsNearest V (Proc.devRef .tc main_v19) = nearest (V (Proc.devRef .tc main_v18))
    ∧ after opsNearest V (Proc.devRef .tc main_v1) = V (Proc.devRef .tc main_v1)
    ∧ after opsNearest V (Proc.devRef .tc main_arg0) = V (Proc.devRef .tc main_arg0)
    ∧ after opsNearest V (Proc.devRef .tc main_arg1) = V (Proc.devRef .tc main_arg1) := by
  refine ⟨?_, ?_, ?_, ?_⟩ <;>
  (simp only [opsNearest, TRef.binary, TRef.nullary, TRef.ternary, TRef.unary, TRef.quaternary, TRef.toBuf, TRef.ofBuf,
    cast_eq]; after_results_simp <;> rfl)

set_option maxHeartbeats 4000000 in
/-- After the third piece: the codes taken at the indices, and what is used later as it was. -/
theorem afterTaken (V : Valuation τ sig (Elt F)) :
    after opsTaken V (Proc.devRef .tc main_v20) = taken (V (Proc.devRef .tc main_arg1)) (V (Proc.devRef .tc main_v19))
    ∧ after opsTaken V (Proc.devRef .tc main_v19) = V (Proc.devRef .tc main_v19)
    ∧ after opsTaken V (Proc.devRef .tc main_v1) = V (Proc.devRef .tc main_v1)
    ∧ after opsTaken V (Proc.devRef .tc main_arg0) = V (Proc.devRef .tc main_arg0)
    ∧ after opsTaken V (Proc.devRef .tc main_arg1) = V (Proc.devRef .tc main_arg1) := by
  refine ⟨?_, ?_, ?_, ?_, ?_⟩ <;>
  (simp only [opsTaken, TRef.binary, TRef.nullary, TRef.ternary, TRef.unary, TRef.quaternary, TRef.toBuf, TRef.ofBuf,
    cast_eq]; after_results_simp <;> rfl)

set_option maxHeartbeats 4000000 in
/-- After the last piece: the quantized latents, the loss, and the indices and arguments as they were. -/
theorem afterOut (V : Valuation τ sig (Elt F)) :
    after opsOut V (Proc.devRef .tc main_v34) = quantized (V (Proc.devRef .tc main_v20)) (V (Proc.devRef .tc main_v1))
    ∧ after opsOut V (Proc.devRef .tc main_v30) = loss (V (Proc.devRef .tc main_v20)) (V (Proc.devRef .tc main_v1))
    ∧ after opsOut V (Proc.devRef .tc main_v19) = V (Proc.devRef .tc main_v19)
    ∧ after opsOut V (Proc.devRef .tc main_arg0) = V (Proc.devRef .tc main_arg0)
    ∧ after opsOut V (Proc.devRef .tc main_arg1) = V (Proc.devRef .tc main_arg1) := by
  refine ⟨?_, ?_, ?_, ?_, ?_⟩ <;>
  (simp only [opsOut, TRef.binary, TRef.nullary, TRef.ternary, TRef.unary, TRef.quaternary, TRef.toBuf, TRef.ofBuf,
    cast_eq]; after_results_simp <;> rfl)

/-- What the run starts from, at the two arguments. -/
theorem launch_arg0 (m : (ℓ : Loc nD τ sig) → Buf (Elt F) ℓ) (c : Dev nD) :
    launchContents m c (Proc.devRef .tc main_arg0) = m ((c.tc : Thread nD τ).loc main_arg0) := rfl
/-- and so does the second. -/
theorem launch_arg1 (m : (ℓ : Loc nD τ sig) → Buf (Elt F) ℓ) (c : Dev nD) :
    launchContents m c (Proc.devRef .tc main_arg1) = m ((c.tc : Thread nD τ).loc main_arg1) := rfl

/-- **The reference's run**, for any float values: the three results at the stage values, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
          = quantized (codes (m ((c.tc : Thread nD τ).loc main_arg0)) (m ((c.tc : Thread nD τ).loc main_arg1)))
              (flat (m ((c.tc : Thread nD τ).loc main_arg0)))
      ∧ r.2.mem ((c.tc : Thread nD τ).loc main_v30)
          = loss (codes (m ((c.tc : Thread nD τ).loc main_arg0)) (m ((c.tc : Thread nD τ).loc main_arg1)))
              (flat (m ((c.tc : Thread nD τ).loc main_arg0)))
      ∧ r.2.mem ((c.tc : Thread nD τ).loc main_v19)
          = indices (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨dv1, dv18, da0, da1⟩ := afterDist (launchContents m c)
      obtain ⟨nv19, nv1, na0, na1⟩ := afterNearest (after opsDist (launchContents m c))
      obtain ⟨tv20, tv19, tv1, ta0, ta1⟩ := afterTaken (after opsNearest (after opsDist (launchContents m c)))
      obtain ⟨ov34, ov30, ov19, oa0, oa1⟩ := afterOut (after opsTaken (after opsNearest (after opsDist (launchContents m c))))
      rw [tv20, tv1, nv19, nv1, na1, dv18, dv1, da1, launch_arg0, launch_arg1] at ov34 ov30
      rw [tv19, nv19, dv18, launch_arg0, launch_arg1] at ov19
      rw [ta0, na0, da0, launch_arg0] at oa0
      rw [ta1, na1, da1, launch_arg1] at oa1
      have e : after ops (launchContents m c)
          = after opsOut (after opsTaken (after opsNearest (after opsDist (launchContents m c)))) := by
        rw [ops, after_append, after_append, after_append]
      have k := h c
      rw [e] at k
      exact ⟨(k main_v34).trans ov34, (k main_v30).trans ov30, (k main_v19).trans ov19, (k main_arg0).trans oa0,
        (k main_arg1).trans oa1⟩)
    (run_seq scopedRefs_eq scopedSems_eq defs main (fun _ => ops) main_eq (fun _ => ops_sub) m ρ (fun _ => ops_fresh))

/-- The run read as a frame: the arguments end unchanged and, the program declaring no semaphore, every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => ⟨(h c).2.2.2.1, (h c).2.2.2.2⟩, sem_eq_zero_of_no_sems (by decide) r.2⟩)
    (run m ρ)

end Cert.VQ.Ref

end
-- ==== Proof.Finite.lean ====
/-
  What the precondition gives: every entry of both arguments is a real number.  Its other part, that each pixel has one
  nearest code, is not needed: both sides take the first of several.
-/
module

public import proofs.«01_k».proof.Pre_separated
public import proofs.«01_k».proof.Proof.Gen.Pre_separated
public import Idealize.ShloMosaic.Lib.ReduceAll
public import Idealize.ShloMosaic.Lib.Pointwise

@[expose] public section

set_option maxRecDepth 16384

noncomputable section

namespace Cert.VQ

open Cert.Pre_separated Idealize.ShloMosaic

/-- An extended real whose absolute value is below `⊤` is a real number. -/
theorem real_of_abs_lt {x : EReal} (h : max x (-x) < ⊤) : ∃ r : ℝ, x = r := by
  induction x using EReal.rec with
  | bot => exact absurd h (by simp)
  | coe r => exact ⟨r, rfl⟩
  | top => exact absurd h (by simp)

/-- The precondition's test of one array, read at an entry. -/
theorem real_of_test {s : Shape} (x y : FVec Ideal s .f32) (hy : ∀ i, y i = (⊤ : EReal)) (i : s.Idx)
    (h : cmpf .olt (Host.absf x) y i = 1#1) : ∃ r : ℝ, x i = (r : EReal) := by
  refine real_of_abs_lt ?_
  have e : cmpf .olt (Host.absf x) y i = BitVec.ofBool (decide (max (x i) (-(x i)) < y i)) := rfl
  rw [e, hy] at h
  by_contra hn
  rw [decide_eq_false hn] at h
  exact absurd h (by decide)

/-- A scalar has one index. -/
instance : Subsingleton S_.Idx := ⟨fun a b => funext fun d => d.elim0⟩

/-- The float the test compares with is `⊤`. -/
theorem bound_top : Ideal.ofBits .f32 0x7F800000#32 = (⊤ : EReal) := by simp [Ideal.ofBits, Ideal.ieee]

/-- Two bits whose conjunction is 1 are both 1. -/
theorem and_one {x y : IVec S_ 1} (h : andi x y = fun _ => 1#1) : (x = fun _ => 1#1) ∧ y = fun _ => 1#1 := by
  have k : ∀ p q : BitVec 1, IntOp.andi p q = 1#1 → p = 1#1 ∧ q = 1#1 := by decide
  exact ⟨funext fun i => (k _ _ (congrFun h i)).1, funext fun i => (k _ _ (congrFun h i)).2⟩

/-- Under the precondition every entry of the two arguments is a real number. -/
theorem real_of_pre (a : FVec Ideal S32x64x32x32 .f32) (b : FVec Ideal S1024x64 .f32)
    (h : fn (F := Ideal) a b = fun _ => 1#1) :
    (∀ i, ∃ r : ℝ, a i = (r : EReal)) ∧ ∀ i, ∃ r : ℝ, b i = (r : EReal) := by
  unfold fn fn_part1 fn_part2 at h
  obtain ⟨-, h⟩ := and_one h
  obtain ⟨ha, hb⟩ := and_one h
  exact ⟨fun i => real_of_test a _ (fun _ => bound_top) i (Host.reduce_andi_all _ _ _ _ ix0 (congrFun ha ix0) i),
    fun i => real_of_test b _ (fun _ => bound_top) i (Host.reduce_andi_all _ _ _ _ ix0 (congrFun hb ix0) i)⟩

end Cert.VQ

end
-- ==== Proof.First.lean ====
/-
  The first least entry of a row of 1024 extended reals, and the two operations that find it: the kernel's index
  reduction along the codes' axis, and the reference's two-operand reduction, which keeps the lesser value and on equal
  values the lesser index.
-/
module

public import proofs.«01_k».proof.Proof.Ker
public import proofs.«01_k».proof.Proof.Ref
public import Idealize.ShloMosaic.Lib.Pointwise
public import Idealize.ShloMosaic.PureOps.Ideal.Laws
public import Idealize.ShloMosaic.PureOps.Reduce

@[expose] public section

set_option maxRecDepth 16384

noncomputable section

namespace Cert.VQ

open Idealize.ShloMosaic

/-- `k` is the first least entry of `d`: nothing is less, and everything before it is greater. -/
def IsFirst (d : Fin 1024 → EReal) (k : Fin 1024) : Prop := (∀ j, d k ≤ d j) ∧ ∀ j, j < k → d k < d j

/-- There is one, -/
theorem exists_isFirst (d : Fin 1024 → EReal) : ∃ k, IsFirst d k := by
  classical
  obtain ⟨a, -, ha⟩ := Finset.exists_min_image (Finset.univ : Finset (Fin 1024)) d ⟨0, Finset.mem_univ _⟩
  have hne : (Finset.univ.filter fun k => ∀ j, d k ≤ d j).Nonempty :=
    ⟨a, Finset.mem_filter.mpr ⟨Finset.mem_univ _, fun j => ha j (Finset.mem_univ _)⟩⟩
  obtain ⟨k, hk, hmin⟩ := Finset.exists_min_image _ id hne
  have hk' := (Finset.mem_filter.mp hk).2
  refine ⟨k, hk', fun j hj => lt_of_not_ge fun h => ?_⟩
  exact absurd (hmin j (Finset.mem_filter.mpr ⟨Finset.mem_univ _, fun i => h.trans (hk' i)⟩)) (not_le.mpr hj)

/-- and one only. -/
theorem IsFirst.eq {d : Fin 1024 → EReal} {k l : Fin 1024} (hk : IsFirst d k) (hl : IsFirst d l) : k = l := by
  rcases lt_trichotomy k l with h | h | h
  · exact absurd (hk.1 l) (not_le.mpr (hl.2 k h))
  · exact h
  · exact absurd (hl.1 k) (not_le.mpr (hk.2 l h))

/-- The first least entry of `d`. -/
def first (d : Fin 1024 → EReal) : Fin 1024 := (exists_isFirst d).choose

/-- `first d` is one, -/
theorem first_spec (d : Fin 1024 → EReal) : IsFirst d (first d) := (exists_isFirst d).choose_spec

/-- and the only one. -/
theorem eq_first {d : Fin 1024 → EReal} {k : Fin 1024} (h : IsFirst d k) : k = first d := h.eq (first_spec d)

/-! ## The kernel's index reduction -/

/-- The kernel's index reduction answers, for pixel `p`, the first least entry of column `p`. -/
theorem reduceIndex_first (x : FVec Ideal Cert.KernelIdeal.S1024x1024 .f32)
    (h : Cert.KernelIdeal.S1024x1024.Reduces [0] Cert.KernelIdeal.S1024) (p : Fin 1024) :
    Ideal.reduceIndex .argMin 0 h x (ix1 p) = BitVec.ofNat 32 (first fun k : Fin 1024 => x (ix2 k p)).val := by
  classical
  have hf := first_spec fun k : Fin 1024 => x (ix2 k p)
  unfold Ideal.reduceIndex
  dsimp only
  refine congrArg (BitVec.ofNat 32) ?_
  have hfib : ∀ i : Cert.KernelIdeal.S1024x1024.Idx, h.drop i = ix1 p ↔ ∃ k : Fin 1024, ix2 k p = i := fun i =>
    h.fiber_r2_a0 (ix1 p) i
  rw [show (Finset.image (fun i : Cert.KernelIdeal.S1024x1024.Idx => (i 0).val) _).min
    = ((first fun k : Fin 1024 => x (ix2 k p)).val : WithTop ℕ) from ?_]
  · rfl
  refine le_antisymm (Finset.min_le (Finset.mem_image.mpr ⟨ix2 (first fun k : Fin 1024 => x (ix2 k p)) p, ?_, rfl⟩))
    (Finset.le_min fun b hb => ?_)
  · simp only [Finset.mem_filter, Finset.mem_univ, true_and, hfib, forall_exists_index, forall_apply_eq_imp_iff]
    exact ⟨⟨_, rfl⟩, fun k => by rw [if_neg (by decide)]; exact not_lt.mpr (hf.1 k)⟩
  · obtain ⟨i, hi, rfl⟩ := Finset.mem_image.mp hb
    simp only [Finset.mem_filter, Finset.mem_univ, true_and, hfib, forall_exists_index, forall_apply_eq_imp_iff] at hi
    obtain ⟨⟨k, rfl⟩, hleast⟩ := hi
    refine WithTop.coe_le_coe.mpr ?_
    show (first fun k : Fin 1024 => x (ix2 k p)).val ≤ k.val
    have hk : ∀ j : Fin 1024, x (ix2 k p) ≤ x (ix2 j p) := fun j => by
      have := hleast j
      rw [if_neg (by decide)] at this
      exact not_lt.mp this
    exact not_lt.mp fun hlt => absurd (hf.2 k hlt) (not_lt.mpr (hk _))

/-! ## The reference's reduction of pairs -/

/-- The lesser of two (value, index) pairs: by value, then by index. -/
def Below (a b : EReal × BitVec 32) : Prop := a.1 < b.1 ∨ a.1 = b.1 ∧ a.2.toInt ≤ b.2.toInt

/-- Every pair is below itself, -/
theorem Below.refl (a : EReal × BitVec 32) : Below a a := .inr ⟨rfl, le_rfl⟩

/-- and being below carries over. -/
theorem Below.trans {a b c : EReal × BitVec 32} (h : Below a b) (g : Below b c) : Below a c := by
  rcases h with h | ⟨h, h'⟩ <;> rcases g with g | ⟨g, g'⟩
  · exact .inl (h.trans g)
  · exact .inl (g ▸ h)
  · exact .inl (h ▸ g)
  · exact .inr ⟨h.trans g, h'.trans g'⟩

/-- The reference's reducer answers one of its two pairs, and that one is below both. -/
theorem reducer_spec (a b : EReal × BitVec 32) :
    (Cert.ReferenceIdeal.reducer_argmin_f32_i32 (F := Ideal) a b = a
      ∨ Cert.ReferenceIdeal.reducer_argmin_f32_i32 (F := Ideal) a b = b)
    ∧ Below (Cert.ReferenceIdeal.reducer_argmin_f32_i32 (F := Ideal) a b) a
    ∧ Below (Cert.ReferenceIdeal.reducer_argmin_f32_i32 (F := Ideal) a b) b := by
  obtain ⟨a1, a2⟩ := a
  obtain ⟨b1, b2⟩ := b
  have key : Cert.ReferenceIdeal.reducer_argmin_f32_i32 (F := Ideal) (a1, a2) (b1, b2)
      = if a1 < b1 then (a1, a2) else if a1 = b1 ∧ a2.toInt < b2.toInt then (a1, a2) else (b1, b2) := by
    unfold Cert.ReferenceIdeal.reducer_argmin_f32_i32
    simp only [Ideal.cmpf_def, Ideal.cmp]
    have hs : IntOp.cmpi CmpIPredicate.slt a2 b2 = BitVec.ofBool (decide (a2.toInt < b2.toInt)) := rfl
    rw [hs]
    by_cases h1 : a1 < b1 <;> by_cases h2 : a1 = b1 <;> by_cases h3 : a2.toInt < b2.toInt <;>
      simp [h1, h2, h3, Scalar.select, IntOp.ori, IntOp.andi]
  rw [key]
  split_ifs with h h'
  · exact ⟨.inl rfl, Below.refl _, .inl h⟩
  · exact ⟨.inl rfl, Below.refl _, .inr ⟨h'.1, h'.2.le⟩⟩
  · refine ⟨.inr rfl, ?_, Below.refl _⟩
    rcases lt_or_eq_of_le (not_lt.mp h) with g | g
    · exact .inl g
    · exact .inr ⟨g, not_lt.mp fun l => h' ⟨g.symm, l⟩⟩

/-- Folding a list of pairs with the reducer answers the initial pair or one of the list, below all of them. -/
theorem foldl_spec (l : List (EReal × BitVec 32)) (a : EReal × BitVec 32) :
    (l.foldl (Cert.ReferenceIdeal.reducer_argmin_f32_i32 (F := Ideal)) a = a
      ∨ l.foldl (Cert.ReferenceIdeal.reducer_argmin_f32_i32 (F := Ideal)) a ∈ l)
    ∧ Below (l.foldl (Cert.ReferenceIdeal.reducer_argmin_f32_i32 (F := Ideal)) a) a
    ∧ ∀ b ∈ l, Below (l.foldl (Cert.ReferenceIdeal.reducer_argmin_f32_i32 (F := Ideal)) a) b := by
  induction l generalizing a with
  | nil => exact ⟨.inl rfl, Below.refl _, fun b hb => absurd hb List.not_mem_nil⟩
  | cons c l ih =>
    obtain ⟨hor, ha, hl⟩ := ih (Cert.ReferenceIdeal.reducer_argmin_f32_i32 (F := Ideal) a c)
    obtain ⟨ror, ra, rc⟩ := reducer_spec a c
    rw [List.foldl_cons]
    refine ⟨?_, ha.trans ra, fun b hb => ?_⟩
    · rcases hor with e | e
      · rcases ror with e' | e'
        · exact .inl (e.trans e')
        · exact .inr (by rw [e, e']; exact List.mem_cons_self)
      · exact .inr (List.mem_cons_of_mem _ e)
    · rcases List.mem_cons.mp hb with rfl | hb
      · exact ha.trans rc
      · exact hl b hb

/-- A code's number, as a word of 32 bits, reads back as itself. -/
theorem toInt_small (k : Fin 1024) : (BitVec.ofNat 32 k.val).toInt = (k.val : ℤ) := by
  have := k.isLt
  rw [BitVec.toInt_ofNat', Int.bmod_eq_of_le] <;> omega

/-- The fold of a row's pairs from `(⊤, 0)` answers the first least entry of the row. -/
theorem fold_first {N : Nat} (d : FVec Ideal ⟨2, ![N, 1024]⟩ .f32) (h : (⟨2, ![N, 1024]⟩ : Shape).ReducesTo [1] ⟨1, ![N]⟩)
    (n : Fin N) :
    ((Host.argReduceFiber d (iotaInDim ⟨2, ![N, 1024]⟩ 32 1) h (ix1 n)).foldl
      (Cert.ReferenceIdeal.reducer_argmin_f32_i32 (F := Ideal)) ((⊤ : EReal), 0#32)).2
      = BitVec.ofNat 32 (first fun k : Fin 1024 => d (ix2 n k)).val := by
  have hfib : ∀ i : (⟨2, ![N, 1024]⟩ : Shape).Idx, h.drop i = ix1 n ↔ ∃ k : Fin 1024, ix2 n k = i := fun i =>
    h.fiber_r2_a1 (ix1 n) i
  have hmem : ∀ q : EReal × BitVec 32, q ∈ Host.argReduceFiber d (iotaInDim ⟨2, ![N, 1024]⟩ 32 1) h (ix1 n)
      ↔ ∃ k : Fin 1024, q = (d (ix2 n k), BitVec.ofNat 32 k.val) := fun q => by
    rw [Host.argReduceFiber, List.mem_map]
    constructor
    · rintro ⟨r, hr, rfl⟩
      obtain ⟨k, hk⟩ := (hfib _).mp (of_decide_eq_true (List.mem_filter.mp hr).2)
      exact ⟨k, by rw [← hk]; rfl⟩
    · rintro ⟨k, rfl⟩
      refine ⟨(⟨2, ![N, 1024]⟩ : Shape).rowMajor (ix2 n k), List.mem_filter.mpr ⟨List.mem_finRange _,
        decide_eq_true ((hfib _).mpr ⟨k, ?_⟩)⟩, ?_⟩
      · rw [Equiv.symm_apply_apply]
      · rw [Equiv.symm_apply_apply]; rfl
  obtain ⟨hor, -, hb⟩ := foldl_spec (Host.argReduceFiber d (iotaInDim ⟨2, ![N, 1024]⟩ 32 1) h (ix1 n)) ((⊤ : EReal), 0#32)
  have hin : ∃ k : Fin 1024, (Host.argReduceFiber d (iotaInDim ⟨2, ![N, 1024]⟩ 32 1) h (ix1 n)).foldl
      (Cert.ReferenceIdeal.reducer_argmin_f32_i32 (F := Ideal)) ((⊤ : EReal), 0#32)
      = (d (ix2 n k), BitVec.ofNat 32 k.val) := by
    rcases hor with e | e
    · refine ⟨0, ?_⟩
      have h0 := hb _ ((hmem _).mpr ⟨0, rfl⟩)
      rw [e] at h0 ⊢
      rcases h0 with h0 | ⟨h0, -⟩
      · exact absurd h0 not_top_lt
      · exact Prod.ext h0 rfl
    · exact (hmem _).mp e
  obtain ⟨k, hk⟩ := hin
  rw [hk] at hb ⊢
  refine congrArg (fun k : Fin 1024 => BitVec.ofNat 32 k.val) (eq_first (k := k) ⟨fun j => ?_, fun j hj => ?_⟩)
  · rcases hb _ ((hmem _).mpr ⟨j, rfl⟩) with h | ⟨h, -⟩
    · exact h.le
    · exact h.le
  · rcases hb _ ((hmem _).mpr ⟨j, rfl⟩) with h | ⟨-, h⟩
    · exact h
    · exact absurd h (not_le.mpr (by
        show (BitVec.ofNat 32 j.val).toInt < (BitVec.ofNat 32 k.val).toInt
        rw [toInt_small, toInt_small]; exact_mod_cast hj))

/-- The float the reference's fold starts from is `⊤`. -/
theorem start_top : Ideal.ofBits .f32 0x7F800000#32 = (⊤ : EReal) := by
  simp [Ideal.ofBits, Ideal.ieee]

/-- The reduction of the pairs of a row, started from a pair `(⊤, 0)`, answers the first least entry of that row. -/
theorem argReduce_first {N : Nat} {u : Shape} (d : FVec Ideal ⟨2, ![N, 1024]⟩ .f32) (a : FVec Ideal u .f32) (z : IVec u 32)
    (h : (⟨2, ![N, 1024]⟩ : Shape).ReducesTo [1] ⟨1, ![N]⟩) (hu : 0 < u.numel)
    (ha : ∀ i, a i = (⊤ : EReal)) (hz : ∀ i, z i = 0#32) (n : Fin N) :
    (Host.argReduce (Cert.ReferenceIdeal.reducer_argmin_f32_i32 (F := Ideal)) d (iotaInDim ⟨2, ![N, 1024]⟩ 32 1) a z h hu (ix1 n)).2
      = BitVec.ofNat 32 (first fun k : Fin 1024 => d (ix2 n k)).val := by
  rw [Ideal.argReduce_eq_reduce2, Host.reduce2_eq_foldl_fiber, ha, hz]
  exact fold_first d h n

/-- The reference's indices, written out. -/
theorem nearest_eq (d : FVec Ideal Cert.ReferenceIdeal.S32768x1024 .f32) :
    Ref.nearest d = fun j => (Host.argReduce (Cert.ReferenceIdeal.reducer_argmin_f32_i32 (F := Ideal)) d
      (iotaInDim Cert.ReferenceIdeal.S32768x1024 32 1) (constant Cert.ReferenceIdeal.S_ .f32 0x7F800000#32)
      (constantI Cert.ReferenceIdeal.S_ 32 0#32) Cert.ReferenceIdeal.Gen.reducesTo_S32768x1024_S32768_d1
      Cert.ReferenceIdeal.Gen.h_S_ j).2 := rfl

/-- The reference's reduction answers, for row `n`, the first least entry of that row. -/
theorem nearest_first (d : FVec Ideal Cert.ReferenceIdeal.S32768x1024 .f32) (n : Fin 32768) :
    Ref.nearest d (ix1 n) = BitVec.ofNat 32 (first fun k : Fin 1024 => d (ix2 n k)).val :=
  (congrFun (nearest_eq d) (ix1 n)).trans (argReduce_first (N := 32768) d _ _
    Cert.ReferenceIdeal.Gen.reducesTo_S32768x1024_S32768_d1 Cert.ReferenceIdeal.Gen.h_S_ (fun _ => start_top) (fun _ => rfl) n)

end Cert.VQ

end
-- ==== Proof.Block.lean ====
/-
  What one block of the kernel holds, entry by entry, over the extended reals: for pixel `p` of image `x`, scaled codebook
  `s` and codebook `k` (codes in columns), the index of the code with the least distance, that code itself, the quantized
  image and the sum of the squared differences.
-/
module

public import proofs.«01_k».proof.Proof.First

@[expose] public section

set_option maxRecDepth 16384

noncomputable section

namespace Cert.VQ.Ker

open Cert.KernelIdeal Cert.KernelIdeal.Gen Idealize.ShloMosaic

/-- Channel `c` of pixel `p` of an image. -/
def pixel (x : FVec Ideal S1x64x32x32 .f32) (c : Fin 64) (p : Fin 1024) : EReal :=
  x (ix4 0 c (⟨p.val / 32, by omega⟩ : Fin 32) (⟨p.val % 32, by omega⟩ : Fin 32))

/-- The distance the kernel computes between pixel `p` and code `j`. -/
def distB (x : FVec Ideal S1x64x32x32 .f32) (s k : FVec Ideal S64x1024 .f32) (p j : Fin 1024) : EReal :=
  Ideal.sqrt (max (∑ c, pixel x c p * pixel x c p + ∑ c, s (ix2 c j) * pixel x c p + ∑ c, k (ix2 c j) * k (ix2 c j)) 0)

/-- The code it picks for pixel `p`. -/
def pick (x : FVec Ideal S1x64x32x32 .f32) (s k : FVec Ideal S64x1024 .f32) (p : Fin 1024) : Fin 1024 :=
  first (distB x s k p)

/-- The block as a matrix, one pixel per column. -/
theorem matrix_at (x : FVec Ideal S1x64x32x32 .f32) (c : Fin 64) (p : Fin 1024) :
    k0_pay1 (F := Ideal) x (ix2 c p) = pixel x c p := by
  pointwise [k0_pay1, pixel]

/-- Row `r` of the squares' partial sums adds channels `8 r … 8 r + 7`. -/
theorem part_at (x : FVec Ideal S1x64x32x32 .f32) (r : Fin 8) (p : Fin 1024) :
    k0_pay4 (F := Ideal) x (ix2 r p) = ∑ l : Fin 8,
      pixel x (⟨r.val * 8 + l.val, by omega⟩ : Fin 64) p * pixel x (⟨r.val * 8 + l.val, by omega⟩ : Fin 64) p := by
  pointwise [k0_pay4]
  simp only [matrix_at]
  rw [Fin.sum_univ_eight]
  simp only [add_assoc]
  rfl

/-- The eight rows' sums together are the pixel's squared length. -/
theorem square_eq (x : FVec Ideal S1x64x32x32 .f32) (p : Fin 1024) :
    k0_pay5 (F := Ideal) x (ix1 p) + k0_pay6 (F := Ideal) x (ix1 p) + k0_pay4 (F := Ideal) x (ix2 7 p)
      = ∑ c, pixel x c p * pixel x c p := by
  pointwise [k0_pay5, k0_pay6]
  rw [Fin.sum_univ_tiles 8 8 rfl (fun c : Fin 64 => pixel x c p * pixel x c p), Fin.sum_univ_eight]
  simp only [part_at]

/-- The index the kernel computes for pixel `p` is the picked code's. -/
theorem pay7_at (x : FVec Ideal S1x64x32x32 .f32) (s k : FVec Ideal S64x1024 .f32) (p : Fin 1024) :
    k0_pay7 (F := Ideal) (k0_pay1 x) (k0_pay2 s) (k0_pay3 k) (k0_pay4 x) (k0_pay5 x) (k0_pay6 x) (ix1 p)
      = BitVec.ofNat 32 (pick x s k p).val := by
  refine (reduceIndex_first _ reduces_S1024x1024_S1024 p).trans
    (congrArg (fun d => BitVec.ofNat 32 (first d).val) (funext fun j => ?_))
  pointwise [k0_pay2, k0_pay3]
  rw [square_eq]
  simp only [matrix_at]
  rfl

/-- A compared index as a float: one where the two agree, else zero. -/
theorem hot (j q : Fin 1024) :
    (FloatOps.sitofp (F := Ideal) .f32 (BitVec.setWidth 32 (IntOp.cmpi .eq (BitVec.ofNat 32 j.val) (BitVec.ofNat 32 q.val))) : EReal)
      = if j = q then 1 else 0 := by
  have hj := j.isLt
  have hq := q.isLt
  by_cases h : j = q
  · subst h
    rw [if_pos rfl, show IntOp.cmpi .eq (BitVec.ofNat 32 j.val) (BitVec.ofNat 32 j.val) = 1#1 by simp [IntOp.cmpi]]
    show (((BitVec.setWidth 32 1#1).toInt : ℝ) : EReal) = 1
    rw [show (BitVec.setWidth 32 1#1).toInt = 1 from by decide, Int.cast_one, EReal.coe_one]
  · have hne : (BitVec.ofNat 32 j.val) ≠ BitVec.ofNat 32 q.val := fun e => h (Fin.ext (by
      have := congrArg BitVec.toNat e
      simp only [BitVec.toNat_ofNat] at this
      omega))
    rw [if_neg h, show IntOp.cmpi .eq (BitVec.ofNat 32 j.val) (BitVec.ofNat 32 q.val) = 0#1 by
      simp only [IntOp.cmpi, beq_eq_false_iff_ne.mpr hne]; rfl]
    show (((BitVec.setWidth 32 0#1).toInt : ℝ) : EReal) = 0
    rw [show (BitVec.setWidth 32 0#1).toInt = 0 from by decide, Int.cast_zero, EReal.coe_zero]

/-- The product with the one-hot matrix is the picked code. -/
theorem pay8_at (x : FVec Ideal S1x64x32x32 .f32) (s k : FVec Ideal S64x1024 .f32) (c : Fin 64) (p : Fin 1024) :
    k0_pay8 (F := Ideal) (k0_pay1 x) (k0_pay2 s) (k0_pay3 k) (k0_pay4 x) (k0_pay5 x) (k0_pay6 x) (ix2 c p)
      = k (ix2 c (pick x s k p)) := by
  pointwise [k0_pay8]
  rw [pay7_at]
  simp only [hot, mul_ite, mul_one, mul_zero, Finset.sum_ite_eq', Finset.mem_univ, if_true]
  pointwise [k0_pay3]

/-- The quantized image. -/
theorem quantB_at (x : FVec Ideal S1x64x32x32 .f32) (s k : FVec Ideal S64x1024 .f32) (c : Fin 64) (h w : Fin 32) :
    quantB x s k (ix4 0 c h w) = x (ix4 0 c h w)
      + (k (ix2 c (pick x s k ⟨h.val * 32 + w.val, by omega⟩)) - x (ix4 0 c h w)) := by
  have e : pixel x c (⟨h.val * 32 + w.val, by omega⟩ : Fin 1024) = x (ix4 0 c h w) := by
    unfold pixel
    refine congrArg x ((ix4_inj ..).2 ⟨rfl, rfl, Fin.ext ?_, Fin.ext ?_⟩)
    · show (h.val * 32 + w.val) / 32 = h.val; omega
    · show (h.val * 32 + w.val) % 32 = w.val; omega
  pointwise [quantB, k0_pay9]
  rw [pay8_at, matrix_at, e]

/-- The indices. -/
theorem indexB_at (x : FVec Ideal S1x64x32x32 .f32) (s k : FVec Ideal S64x1024 .f32) (p : Fin 1024) :
    indexB x s k (ix3 0 0 p) = BitVec.ofNat 32 (pick x s k p).val := by
  pointwise [indexB, k0_pay10]
  exact pay7_at x s k p

/-- The sum of the squared differences. -/
theorem lossB_at (x : FVec Ideal S1x64x32x32 .f32) (s k : FVec Ideal S64x1024 .f32) (p : Fin 1024) :
    lossB x s k (ix3 0 0 p) = ∑ c, ∑ p,
      (k (ix2 c (pick x s k p)) - pixel x c p) * (k (ix2 c (pick x s k p)) - pixel x c p) := by
  pointwise [lossB, k0_pay11]
  simp only [pay8_at, matrix_at]

end Cert.VQ.Ker

end
-- ==== Proof.RefValue.lean ====
/-
  What the reference holds, entry by entry, over the extended reals: the distance of each pixel to each code, the code
  taken at each pixel's index, the mean squared difference and the quantized latents.
-/
module

public import proofs.«01_k».proof.Proof.First
public import Idealize.ShloMosaic.Lib.Routing.Ops

@[expose] public section

set_option maxRecDepth 16384

noncomputable section

namespace Cert.VQ.Ref

open Cert.ReferenceIdeal Cert.ReferenceIdeal.Gen Idealize.ShloMosaic

/-- Channel `c` of the flattened latents' pixel `n`. -/
theorem flat_at (a : FVec Ideal S32x64x32x32 .f32) (n : Fin 32768) (c : Fin 64) :
    flat a (ix2 n c) = a (ix4 (⟨n.val / 1024, by omega⟩ : Fin 32) c (⟨n.val / 32 % 32, by omega⟩ : Fin 32)
      (⟨n.val % 32, by omega⟩ : Fin 32)) := by
  pointwise [flat]

/-- The distance the reference computes between pixel `n` and code `j`. -/
def distR (x : FVec Ideal S32768x64 .f32) (b : FVec Ideal S1024x64 .f32) (n : Fin 32768) (j : Fin 1024) : EReal :=
  Ideal.sqrt (max (∑ c, x (ix2 n c) * x (ix2 n c) - ∑ c, Ideal.ofBits .f32 0x40000000#32 * x (ix2 n c) * b (ix2 j c)
    + ∑ c, b (ix2 j c) * b (ix2 j c)) 0)

/-- An entry of the reference's distances. -/
theorem dist_at (x : FVec Ideal S32768x64 .f32) (b : FVec Ideal S1024x64 .f32) (n : Fin 32768) (j : Fin 1024) :
    dist x b (ix2 n j) = distR x b n j := by
  pointwise [dist, pixelSq, codeSq, cross, distR]

/-- The code the reference picks for pixel `n`. -/
def pick (a : FVec Ideal S32x64x32x32 .f32) (b : FVec Ideal S1024x64 .f32) (n : Fin 32768) : Fin 1024 :=
  first (distR (flat a) b n)

/-- The reference's index of pixel `n` is the picked code's number. -/
theorem indices_at (a : FVec Ideal S32x64x32x32 .f32) (b : FVec Ideal S1024x64 .f32) (n : Fin 32768) :
    indices a b (ix1 n) = BitVec.ofNat 32 (pick a b n).val :=
  (nearest_first (dist (flat a) b) n).trans
    (congrArg (fun d => BitVec.ofNat 32 (first d).val) (funext fun j => dist_at (flat a) b n j))

/-- A code's number is not negative, so it stays as it is, -/
theorem wrapped_at (i : IVec S32768 32) (n : Fin 32768) (z : Fin 1) (k : Fin 1024) (hk : i (ix1 n) = BitVec.ofNat 32 k.val) :
    wrapped i (ix2 n z) = BitVec.ofNat 32 k.val := by
  pointwise [wrapped]
  have h : IntOp.cmpi .slt (BitVec.ofNat 32 k.val) 0#32 = 0#1 := by
    show BitVec.ofBool (decide ((BitVec.ofNat 32 k.val).toInt < (0#32).toInt)) = 0#1
    rw [toInt_small, decide_eq_false (by rw [show (0#32 : BitVec 32).toInt = 0 from rfl]; omega)]
    rfl
  rw [hk, h]
  rfl

/-- and it is a row of the codebook. -/
theorem inside_at (w : IVec S32768x1 32) (n : Fin 32768) (k : Fin 1024)
    (hk : ∀ z : Fin 1, w (ix2 n z) = BitVec.ofNat 32 k.val) : inside w (ix1 n) = 1#1 := by
  have hlt := k.isLt
  pointwise [inside]
  have h0 : IntOp.cmpi .sge (BitVec.ofNat 32 k.val) 0#32 = 1#1 := by
    show BitVec.ofBool (decide ((0#32).toInt ≤ (BitVec.ofNat 32 k.val).toInt)) = 1#1
    rw [toInt_small, decide_eq_true (by rw [show (0#32 : BitVec 32).toInt = 0 from rfl]; omega)]
    rfl
  have h1 : IntOp.cmpi .sle (BitVec.ofNat 32 k.val) 1023#32 = 1#1 := by
    show BitVec.ofBool (decide ((BitVec.ofNat 32 k.val).toInt ≤ (1023#32).toInt)) = 1#1
    rw [toInt_small, decide_eq_true (by rw [show (1023#32 : BitVec 32).toInt = 1023 from rfl]; omega)]
    rfl
  simp only [hk, h0, h1, Finset.univ_unique, Finset.fold_singleton]
  rfl

/-- The rows taken at an index that is code `k`'s number are code `k`. -/
theorem taken_at (b : FVec Ideal S1024x64 .f32) (i : IVec S32768 32) (n : Fin 32768) (c : Fin 64) (k : Fin 1024)
    (hk : i (ix1 n) = BitVec.ofNat 32 k.val) : taken b i (ix2 n c) = b (ix2 k c) := by
  pointwise [taken]
  rw [inside_at (wrapped i) n k fun z => wrapped_at i n z k hk]
  exact Routing.gather_row gather_S1024x64_S32768x1_S32768x64_1_0_n_n_0_1_164 rfl rfl rfl rfl rfl b (wrapped i) n c k
    (wrapped_at i n 0 k hk) (by decide)

/-- The code of each pixel is the picked one. -/
theorem codes_at (a : FVec Ideal S32x64x32x32 .f32) (b : FVec Ideal S1024x64 .f32) (n : Fin 32768) (c : Fin 64) :
    codes a b (ix2 n c) = b (ix2 (pick a b n) c) :=
  taken_at b (indices a b) n c (pick a b n) (indices_at a b n)

/-- The mean squared difference. -/
theorem meanSq_at (q x : FVec Ideal S32768x64 .f32) : meanSq q x ix0
    = Ideal.div (∑ n : Fin 32768, ∑ c : Fin 64, (q (ix2 n c) - x (ix2 n c)) * (q (ix2 n c) - x (ix2 n c)))
      (Ideal.ofBits .f32 0x4A000000#32) := by
  pointwise [meanSq]

/-- The quantized latents. -/
theorem quantized_at (q x : FVec Ideal S32768x64 .f32) (t : Fin 32) (c : Fin 64) (h w : Fin 32) :
    quantized q x (ix4 t c h w)
      = x (ix2 (⟨t.val * 1024 + h.val * 32 + w.val, by omega⟩ : Fin 32768) c)
        + (q (ix2 (⟨t.val * 1024 + h.val * 32 + w.val, by omega⟩ : Fin 32768) c)
          - x (ix2 (⟨t.val * 1024 + h.val * 32 + w.val, by omega⟩ : Fin 32768) c)) := by
  pointwise [quantized]

end Cert.VQ.Ref

end
-- ==== Proof.Equation.lean ====
/-
  The equation: for arguments of real numbers, the kernel's three results are the reference's.
-/
module

public import proofs.«01_k».proof.Proof.Block
public import proofs.«01_k».proof.Proof.RefValue

@[expose] public section

set_option maxRecDepth 16384

noncomputable section

namespace Cert.VQ

open Cert.KernelIdeal Idealize.ShloMosaic

/-- Pixel `p` of image `t` as a row of the flattened latents. -/
def row (t : Fin 32) (p : Fin 1024) : Fin 32768 := ⟨t.val * 1024 + p.val, by omega⟩

/-- The word of `-2`. -/
theorem minus_two : Ideal.ofBits .f32 0xC0000000#32 = ((-2 : ℝ) : EReal) := by
  simp [Ideal.ofBits, Ideal.ieee]; rw [← EReal.coe_mul]; norm_num
/-- The word of `2`. -/
theorem two : Ideal.ofBits .f32 0x40000000#32 = ((2 : ℝ) : EReal) := by
  simp [Ideal.ofBits, Ideal.ieee]; rw [← EReal.coe_mul]; norm_num
/-- The word of `1 / 4`. -/
theorem quarter : Ideal.ofBits .f32 0x3E800000#32 = ((1 / 4 : ℝ) : EReal) := by
  simp [Ideal.ofBits, Ideal.ieee]; rw [← EReal.coe_mul]; norm_num
/-- The word of the number of the latents' entries, `2097152`. -/
theorem count : Ideal.ofBits .f32 0x4A000000#32 = ((2097152 : ℝ) : EReal) := by
  simp [Ideal.ofBits, Ideal.ieee]; rw [← EReal.coe_mul]; norm_num
/-- The word of `1.25 / 2097152`. -/
theorem weight : Ideal.ofBits .f32 0x35200000#32 = ((5 / 8388608 : ℝ) : EReal) := by
  simp [Ideal.ofBits, Ideal.ieee]; rw [← EReal.coe_mul]; norm_num

/-- An entry of the codebook in columns, -/
theorem columns_at (b : FVec Ideal S1024x64 .f32) (c : Fin 64) (j : Fin 1024) : Ker.columns b (ix2 c j) = b (ix2 j c) := by
  pointwise [Ker.columns]
/-- and of the same times `-2`. -/
theorem scaled_at (b : FVec Ideal S1024x64 .f32) (c : Fin 64) (j : Fin 1024) :
    Ker.scaled b (ix2 c j) = Ideal.ofBits .f32 0xC0000000#32 * b (ix2 j c) := by
  pointwise [Ker.scaled, Ker.columns]

/-- A pixel of an image is its row of the flattened latents. -/
theorem pixel_row (a : FVec Ideal S32x64x32x32 .f32) (t : Fin 32) (p : Fin 1024) (c : Fin 64) :
    Ker.pixel (Ker.image a t) c p = Ref.flat a (ix2 (row t p) c) := by
  rw [Ref.flat_at]
  show a (ix4 t c (⟨p.val / 32, _⟩ : Fin 32) (⟨p.val % 32, _⟩ : Fin 32)) = _
  congr 2 <;> simp only [row, Fin.ext_iff] <;> omega

/-- A sum of reals is a real. -/
theorem sum_real (f : Fin 64 → ℝ) : (∑ c, (f c : EReal)) = ((∑ c, f c : ℝ) : EReal) :=
  (map_sum (⟨⟨Real.toEReal, EReal.coe_zero⟩, EReal.coe_add⟩ : ℝ →+ EReal) f Finset.univ).symm

/-- Adding the products with `-2` in one factor is subtracting those with `2` in the other. -/
theorem cross_eq (x b : Fin 64 → EReal) (hx : ∀ c, ∃ r : ℝ, x c = r) (hb : ∀ c, ∃ r : ℝ, b c = r) :
    ∑ c, Ideal.ofBits .f32 0xC0000000#32 * b c * x c = -∑ c, Ideal.ofBits .f32 0x40000000#32 * x c * b c := by
  choose u hu using hx
  choose v hv using hb
  simp only [hu, hv, minus_two, two, ← EReal.coe_mul, sum_real, ← EReal.coe_neg]
  rw [← Finset.sum_neg_distrib]
  exact congrArg _ (Finset.sum_congr rfl fun c _ => by ring)

variable (a : FVec Ideal S32x64x32x32 .f32) (b : FVec Ideal S1024x64 .f32)

/-- The two programs compute one distance, -/
theorem distance_eq (ha : ∀ i, ∃ r : ℝ, a i = r) (hb : ∀ i, ∃ r : ℝ, b i = r) (t : Fin 32) (p j : Fin 1024) :
    Ker.distB (Ker.image a t) (Ker.scaled b) (Ker.columns b) p j = Ref.distR (Ref.flat a) b (row t p) j := by
  unfold Ker.distB Ref.distR
  simp only [pixel_row, columns_at, scaled_at]
  rw [cross_eq (fun c => Ref.flat a (ix2 (row t p) c)) (fun c => b (ix2 j c))
    (fun c => by simp only [Ref.flat_at]; exact ha _) (fun c => hb _), ← sub_eq_add_neg]

/-- so they pick one code. -/
theorem pick_eq (ha : ∀ i, ∃ r : ℝ, a i = r) (hb : ∀ i, ∃ r : ℝ, b i = r) (t : Fin 32) (p : Fin 1024) :
    Ker.pick (Ker.image a t) (Ker.scaled b) (Ker.columns b) p = Ref.pick a b (row t p) :=
  congrArg first (funext fun j => distance_eq a b ha hb t p j)

/-- The quantized latents are equal. -/
theorem quantized_eq (ha : ∀ i, ∃ r : ℝ, a i = r) (hb : ∀ i, ∃ r : ℝ, b i = r) :
    Ker.quantA a (Ker.scaled b) (Ker.columns b) = Ref.quantized (Ref.codes a b) (Ref.flat a) := by
  funext i
  obtain ⟨t, c, h, w, rfl⟩ : ∃ (t : Fin 32) (c : Fin 64) (h w : Fin 32), i = ix4 t c h w := ⟨_, _, _, _, eq_ix4 i⟩
  rw [Ref.quantized_at, Ref.codes_at]
  show Ker.quantB (Ker.image a t) (Ker.scaled b) (Ker.columns b) (ix4 0 c h w) = _
  have e : (⟨t.val * 1024 + h.val * 32 + w.val, by omega⟩ : Fin 32768) = row t ⟨h.val * 32 + w.val, by omega⟩ :=
    Fin.ext (Nat.add_assoc _ _ _)
  have k : Ker.image a t (ix4 0 c h w) = Ref.flat a (ix2 (row t ⟨h.val * 32 + w.val, by omega⟩) c) := by
    rw [← pixel_row]
    have eh : (⟨(h.val * 32 + w.val) / 32, by omega⟩ : Fin 32) = h := by simp only [Fin.ext_iff]; omega
    have ew : (⟨(h.val * 32 + w.val) % 32, by omega⟩ : Fin 32) = w := by simp only [Fin.ext_iff]; omega
    show a (ix4 t c h w) = a (ix4 t c (⟨(h.val * 32 + w.val) / 32, _⟩ : Fin 32) (⟨(h.val * 32 + w.val) % 32, _⟩ : Fin 32))
    rw [eh, ew]
  rw [Ker.quantB_at, columns_at, pick_eq a b ha hb, k, e]

/-- The indices are equal. -/
theorem indices_eq (ha : ∀ i, ∃ r : ℝ, a i = r) (hb : ∀ i, ∃ r : ℝ, b i = r) :
    Ker.indexOf (Ker.indexA a (Ker.scaled b) (Ker.columns b)) = Ref.indices a b := by
  have k : ∀ n : Fin 32768, Ker.indexOf (Ker.indexA a (Ker.scaled b) (Ker.columns b)) (ix1 n)
      = Ker.indexB (Ker.image a (⟨n.val / 1024, by omega⟩ : Fin 32)) (Ker.scaled b) (Ker.columns b)
        (ix3 0 0 (⟨n.val % 1024, by omega⟩ : Fin 1024)) := by
    intro n
    pointwise [Ker.indexOf, Ker.indexA]
  funext i
  obtain ⟨n, rfl⟩ : ∃ n : Fin 32768, i = ix1 n := ⟨_, eq_ix1 i⟩
  rw [k, Ref.indices_at, Ker.indexB_at, pick_eq a b ha hb]
  congr 4
  simp only [row, Fin.ext_iff]
  omega

/-- A sum weighted by `1.25 / 2097152` is a quarter of the mean and the mean. -/
theorem weighted (s : EReal) : s * Ideal.ofBits .f32 0x35200000#32
    = Ideal.div s (Ideal.ofBits .f32 0x4A000000#32) * Ideal.ofBits .f32 0x3E800000#32
      + Ideal.div s (Ideal.ofBits .f32 0x4A000000#32) := by
  rw [weight, count, quarter, Ideal.div_coe (by norm_num), mul_assoc, ← EReal.coe_mul,
    ← EReal.left_distrib_of_nonneg (by exact_mod_cast (by norm_num : (0 : ℝ) ≤ _)) (by exact_mod_cast (by norm_num : (0 : ℝ) ≤ _)),
    ← EReal.coe_add]
  norm_num

/-- The losses are equal. -/
theorem loss_eq (ha : ∀ i, ∃ r : ℝ, a i = r) (hb : ∀ i, ∃ r : ℝ, b i = r) :
    Ker.lossOf (Ker.lossA a (Ker.scaled b) (Ker.columns b)) = Ref.loss (Ref.codes a b) (Ref.flat a) := by
  have k : Ker.lossOf (Ker.lossA a (Ker.scaled b) (Ker.columns b)) ix0
      = (∑ t : Fin 32, Ker.lossB (Ker.image a t) (Ker.scaled b) (Ker.columns b) (ix3 0 0 (0 : Fin 1024)))
        * Ideal.ofBits .f32 0x35200000#32 := by
    pointwise [Ker.lossOf, Ker.lossA]
  have r : Ref.loss (Ref.codes a b) (Ref.flat a) ix0
      = Ref.meanSq (Ref.codes a b) (Ref.flat a) ix0 * Ideal.ofBits .f32 0x3E800000#32
        + Ref.meanSq (Ref.codes a b) (Ref.flat a) ix0 := by
    pointwise [Ref.loss]
  funext i
  obtain rfl : i = ix0 := funext fun d => d.elim0
  rw [k, r, Ref.meanSq_at, weighted]
  have s : (∑ t : Fin 32, Ker.lossB (Ker.image a t) (Ker.scaled b) (Ker.columns b) (ix3 0 0 (0 : Fin 1024)))
      = ∑ n : Fin 32768, ∑ c : Fin 64, (Ref.codes a b (ix2 n c) - Ref.flat a (ix2 n c))
        * (Ref.codes a b (ix2 n c) - Ref.flat a (ix2 n c)) := by
    rw [Fin.sum_univ_tiles 32 1024 rfl]
    refine Finset.sum_congr rfl fun t _ => ?_
    rw [Ker.lossB_at, Finset.sum_comm]
    refine Finset.sum_congr rfl fun p _ => Finset.sum_congr rfl fun c _ => ?_
    rw [columns_at, pixel_row, pick_eq a b ha hb, Ref.codes_at]
    rfl
  rw [s]

end Cert.VQ

end
-- ==== Proof.lean ====
/-
  The certificate of the vector quantiser.  The three programs keep their arguments and bring their counters back to zero;
  the idealized kernel is the kernel's own text; and, over the extended reals and for real arguments, the kernel's
  quantized latents, loss and indices are the reference's.

  Proof/Ker.lean and Proof/KerRun.lean say what the kernel's run leaves, Proof/Ref.lean and Proof/RefRun.lean what the
  reference's leaves; Proof/First.lean is about the first least entry of a row; Proof/Block.lean and Proof/RefValue.lean
  give the entries of both; Proof/Finite.lean reads the precondition; Proof/Equation.lean equates the results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_separated
public import Idealize.ShloMosaic.Adequacy
public import Idealize.ShloMosaic.Init
public import proofs.«01_k».proof.Proof.KerRun
public import proofs.«01_k».proof.Proof.RefRun
public import proofs.«01_k».proof.Proof.Finite
public import proofs.«01_k».proof.Proof.Equation

@[expose] public section

noncomputable section

namespace Cert.Proof

open Idealize.ShloMosaic Idealize.SL.Sem Cert.Kernel

/-- Kernel and reference, over the extended reals and from the same real arguments, end with the same three results. -/
theorem algebraic : Cert.algebraic_KernelIdeal_ReferenceIdeal := by
  intro m g m' g' hpre hagree
  refine ⟨fun c => Cert.VQ.Ker.quantAt m c, fun c => Cert.VQ.Ker.lossOf (F := Ideal) (Cert.VQ.Ker.lossAt m c),
    fun c => Cert.VQ.Ker.indexOf (Cert.VQ.Ker.indexAt m c), Cert.VQ.Ker.run m g, ?_⟩
  refine (θ_run Cert.ReferenceIdeal.defs _ _).mono (fun r h c => ?_) (Cert.VQ.Ref.run m' g')
  obtain ⟨hq, hl, hi, h0, h1⟩ := h c
  obtain ⟨e0, e1⟩ := hagree c
  obtain ⟨ha, hb⟩ := Cert.VQ.real_of_pre _ _ (hpre c)
  rw [e0, e1] at hq hl hi
  exact ⟨hq.trans (Cert.VQ.quantized_eq _ _ ha hb).symm, hl.trans (Cert.VQ.loss_eq _ _ ha hb).symm,
    hi.trans (Cert.VQ.indices_eq _ _ ha hb).symm, h0, h1⟩

/-- The frames of the three programs, the idealization, which replaces no operation, and the equality of the results. -/
theorem claim : Cert.Claim :=
  ⟨Cert.Kernel.Gen.facts, Cert.KernelIdeal.Gen.facts, Cert.ReferenceIdeal.Gen.facts, Cert.Pre_separated.Gen.facts,
    fun m g _ => Cert.Kernel.Gen.frame m g, fun m g _ => Cert.Kernel.Gen.frame m g,
    fun m g _ => Cert.KernelIdeal.Gen.frame m g, fun m g _ => Cert.VQ.Ref.frame m g, fun m g _ => Cert.VQ.Ref.frame m g,
    trivial, algebraic⟩

end Cert.Proof

end
